-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  IdealRules.named_const.Statement Cert.KernelIdeal.κ "rootlog2e" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v24)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v81) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  IdealRules.named_const.Statement Cert.Kernel4Ideal.κ "rootlog2e" .f32 0x3E0293EE#32 (((Real.sqrt 128)⁻¹ * (Real.log 2)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  IdealRules.named_const.Statement Cert.Kernel6Ideal.κ "rootlog2e" .f32 0x3E0293EE#32 (((Real.sqrt 128)⁻¹ * (Real.log 2)⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S4x4096x2048 : Shape := ⟨3, ![4, 4096, 2048]⟩
abbrev S4x4096x1024 : Shape := ⟨3, ![4, 4096, 1024]⟩
abbrev S32x16 : Shape := ⟨2, ![32, 16]⟩
abbrev S2x16 : Shape := ⟨2, ![2, 16]⟩
abbrev S_ : Shape := ⟨0, ![]⟩
abbrev S4x4096x512 : Shape := ⟨3, ![4, 4096, 512]⟩

class Facts : Prop where
  bcast_S_S4x4096x2048 : S_.BroadcastsInDim S4x4096x2048 (![] : Fin 0 → Fin S4x4096x2048.rank)
  slices_S4x4096x1024_S4x4096x512_0_0_0 : S4x4096x1024.Slices ![0, 0, 0] S4x4096x512
  bcast_S_S4x4096x512 : S_.BroadcastsInDim S4x4096x512 (![] : Fin 0 → Fin S4x4096x512.rank)
  bcast_S_S32x16 : S_.BroadcastsInDim S32x16 (![] : Fin 0 → Fin S32x16.rank)
  bcast_S_S2x16 : S_.BroadcastsInDim S2x16 (![] : Fin 0 → Fin S2x16.rank)

variable [Facts]

def fn {F : FTy → Type} [FloatOps F] (main_arg0 : FVec F S4x4096x2048 .f32) (main_arg1 : FVec F S4x4096x1024 .f32) (main_arg2 : FVec F S32x16 .f32) (main_arg3 : FVec F S2x16 .f32) : IVec S4x4096x2048 1 × IVec S4x4096x512 1 × IVec S32x16 1 × IVec S2x16 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_v3 : FVec F S4x4096x512 .f32 := (extractStridedSlice S4x4096x512 ![0, 0, 0] · slices_S4x4096x1024_S4x4096x512_0_0_0) main_arg1
  let main_v4 : FVec F S4x4096x512 .f32 := Host.absf main_v3
  let main_cst_0 : FVec F S_ .f32 := constant S_ .f32 0x7F800000#32
  let main_v5 : FVec F S4x4096x512 .f32 := broadcastInDim S4x4096x512 ![] bcast_S_S4x4096x512 main_cst_0
  let main_v6 : IVec S4x4096x512 1 := cmpf .olt main_v4 main_v5
  let main_v7 : FVec F S32x16 .f32 := Host.absf main_arg2
  let main_cst_1 : FVec F S_ .f32 := constant S_ .f32 0x7F800000#32
  let main_v8 : FVec F S32x16 .f32 := broadcastInDim S32x16 ![] bcast_S_S32x16 main_cst_1
  let main_v9 : IVec S32x16 1 := cmpf .olt main_v7 main_v8
  let main_v10 : FVec F S2x16 .f32 := Host.absf main_arg3
  let main_cst_2 : FVec F S_ .f32 := constant S_ .f32 0x7F800000#32
  let main_v11 : FVec F S2x16 .f32 := broadcastInDim S2x16 ![] bcast_S_S2x16 main_cst_2
  let main_v12 : IVec S2x16 1 := cmpf .olt main_v10 main_v11
  (main_v2, main_v6, main_v9, main_v12)
-- ==== Kernel.lean ====
abbrev S4x4096x2048 : Shape := ⟨3, ![4, 4096, 2048]⟩
abbrev S4x4096x1024 : Shape := ⟨3, ![4, 4096, 1024]⟩
abbrev S32x16 : Shape := ⟨2, ![32, 16]⟩
abbrev S2x16 : Shape := ⟨2, ![2, 16]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S1x128x256 : Shape := ⟨3, ![1, 128, 256]⟩
abbrev S32 : Shape := ⟨1, ![32]⟩
abbrev S32x1x1 : Shape := ⟨3, ![32, 1, 1]⟩
abbrev S32x128x256 : Shape := ⟨3, ![32, 128, 256]⟩
abbrev S16x128x256 : Shape := ⟨3, ![16, 128, 256]⟩
abbrev S4x4x128x256 : Shape := ⟨4, ![4, 4, 128, 256]⟩
abbrev S4x256x4x128 : Shape := ⟨4, ![4, 256, 4, 128]⟩
abbrev S4x256x512 : Shape := ⟨3, ![4, 256, 512]⟩
abbrev S1x16 : Shape := ⟨2, ![1, 16]⟩
abbrev S16 : Shape := ⟨1, ![16]⟩
abbrev S16x128 : Shape := ⟨2, ![16, 128]⟩
abbrev S2048 : Shape := ⟨1, ![2048]⟩
abbrev S4x1x512 : Shape := ⟨3, ![4, 1, 512]⟩
abbrev S1x256x2048 : Shape := ⟨3, ![1, 256, 2048]⟩
abbrev S1x128x1024 : Shape := ⟨3, ![1, 128, 1024]⟩
abbrev S1x256x1024 : Shape := ⟨3, ![1, 256, 1024]⟩
abbrev S128x128 : Shape := ⟨2, ![128, 128]⟩
abbrev S1x128x128 : Shape := ⟨3, ![1, 128, 128]⟩
abbrev S512x128 : Shape := ⟨2, ![512, 128]⟩
abbrev S128x512 : Shape := ⟨2, ![128, 512]⟩
abbrev S1x128x512 : Shape := ⟨3, ![1, 128, 512]⟩
abbrev S1x1x512 : Shape := ⟨3, ![1, 1, 512]⟩
abbrev S1x512 : Shape := ⟨2, ![1, 512]⟩
abbrev S512 : Shape := ⟨1, ![512]⟩

abbrev nBuf : Space → Nat
  | .hbm => 73
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1024, .f32⟩
  | .hbm, ⟨2, _⟩ => ⟨S32x16, .f32⟩
  | .hbm, ⟨3, _⟩ => ⟨S2x16, .f32⟩
  | .hbm, ⟨4, _⟩ => ⟨S4x4096x2048, .bf16⟩
  | .hbm, ⟨5, _⟩ => ⟨S4x4096x1024, .bf16⟩
  | .hbm, ⟨6, _⟩ => ⟨S128, .i32⟩
  | .hbm, ⟨7, _⟩ => ⟨S128x1, .i32⟩
  | .hbm, ⟨8, _⟩ => ⟨S256, .i32⟩
  | .hbm, ⟨9, _⟩ => ⟨S1x256, .i32⟩
  | .hbm, ⟨10, _⟩ => ⟨S_, .i32⟩
  | .hbm, ⟨11, _⟩ => ⟨S128x1, .i32⟩
  | .hbm, ⟨12, _⟩ => ⟨S128x1, .i32⟩
  | .hbm, ⟨13, _⟩ => ⟨S128x256, .i32⟩
  | .hbm, ⟨14, _⟩ => ⟨S128x256, .i32⟩
  | .hbm, ⟨15, _⟩ => ⟨S128x256, .i32⟩
  | .hbm, ⟨16, _⟩ => ⟨S_, .i32⟩
  | .hbm, ⟨17, _⟩ => ⟨S128x256, .i32⟩
  | .hbm, ⟨18, _⟩ => ⟨S128x256, .i1⟩
  | .hbm, ⟨19, _⟩ => ⟨S_, .i32⟩
  | .hbm, ⟨20, _⟩ => ⟨S128x256, .i32⟩
  | .hbm, ⟨21, _⟩ => ⟨S128x256, .i1⟩
  | .hbm, ⟨22, _⟩ => ⟨S128x256, .i1⟩
  | .hbm, ⟨23, _⟩ => ⟨S_, .i32⟩
  | .hbm, ⟨24, _⟩ => ⟨S128x256, .i32⟩
  | .hbm, ⟨25, _⟩ => ⟨S128x256, .i32⟩
  | .hbm, ⟨26, _⟩ => ⟨S_, .i32⟩
  | .hbm, ⟨27, _⟩ => ⟨S128x256, .i32⟩
  | .hbm, ⟨28, _⟩ => ⟨S128x256, .i32⟩
  | .hbm, ⟨29, _⟩ => ⟨S128x256, .f32⟩
  | .hbm, ⟨30, _⟩ => ⟨S_, .f32⟩
  | .hbm, ⟨31, _⟩ => ⟨S128x256, .f32⟩
  | .hbm, ⟨32, _⟩ => ⟨S128x256, .f32⟩
  | .hbm, ⟨33, _⟩ => ⟨S128x256, .f32⟩
  | .hbm, ⟨34, _⟩ => ⟨S_, .f32⟩
  | .hbm, ⟨35, _⟩ => ⟨S128x256, .f32⟩
  | .hbm, ⟨36, _⟩ => ⟨S128x256, .f32⟩
  | .hbm, ⟨37, _⟩ => ⟨S_, .f32⟩
  | .hbm, ⟨38, _⟩ => ⟨S128x256, .f32⟩
  | .hbm, ⟨39, _⟩ => ⟨S128x256, .f32⟩
  | .hbm, ⟨40, _⟩ => ⟨S128x256, .i32⟩
  | .hbm, ⟨41, _⟩ => ⟨S_, .i32⟩
  | .hbm, ⟨42, _⟩ => ⟨S128x256, .i32⟩
  | .hbm, ⟨43, _⟩ => ⟨S128x256, .i32⟩
  | .hbm, ⟨44, _⟩ => ⟨S_, .i32⟩
  | .hbm, ⟨45, _⟩ => ⟨S128x256, .i32⟩
  | .hbm, ⟨46, _⟩ => ⟨S128x256, .i32⟩
  | .hbm, ⟨47, _⟩ => ⟨S_, .i32⟩
  | .hbm, ⟨48, _⟩ => ⟨S128x256, .i32⟩
  | .hbm, ⟨49, _⟩ => ⟨S128x256, .i1⟩
  | .hbm, ⟨50, _⟩ => ⟨S128x256, .i32⟩
  | .hbm, ⟨51, _⟩ => ⟨S1x128x256, .i32⟩
  | .hbm, ⟨52, _⟩ => ⟨S32, .i32⟩
  | .hbm, ⟨53, _⟩ => ⟨S32x1x1, .i32⟩
  | .hbm, ⟨54, _⟩ => ⟨S32x128x256, .i32⟩
  | .hbm, ⟨55, _⟩ => ⟨S32x128x256, .i32⟩
  | .hbm, ⟨56, _⟩ => ⟨S32x128x256, .i1⟩
  | .hbm, ⟨57, _⟩ => ⟨S32x128x256, .f32⟩
  | .hbm, ⟨58, _⟩ => ⟨S16x128x256, .f32⟩
  | .hbm, ⟨59, _⟩ => ⟨S_, .f32⟩
  | .hbm, ⟨60, _⟩ => ⟨S_, .f32⟩
  | .hbm, ⟨61, _⟩ => ⟨S16x128x256, .i1⟩
  | .hbm, ⟨62, _⟩ => ⟨S16x128x256, .f32⟩
  | .hbm, ⟨63, _⟩ => ⟨S16x128x256, .f32⟩
  | .hbm, ⟨64, _⟩ => ⟨S4x4x128x256, .f32⟩
  | .hbm, ⟨65, _⟩ => ⟨S4x256x4x128, .f32⟩
  | .hbm, ⟨66, _⟩ => ⟨S4x256x512, .f32⟩
  | .hbm, ⟨67, _⟩ => ⟨S1x16, .f32⟩
  | .hbm, ⟨68, _⟩ => ⟨S16, .f32⟩
  | .hbm, ⟨69, _⟩ => ⟨S16x128, .f32⟩
  | .hbm, ⟨70, _⟩ => ⟨S2048, .f32⟩
  | .hbm, ⟨71, _⟩ => ⟨S4x1x512, .f32⟩
  | .hbm, ⟨72, _⟩ => ⟨S4x4096x2048, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S4x256x512, .f32⟩
  | .local _ .vmem, ⟨7, _⟩ => ⟨S4x1x512, .f32⟩
  | .local _ .vmem, ⟨8, _⟩ => ⟨S1x256x2048, .bf16⟩
  | .local _ .vmem, ⟨9, _⟩ => ⟨S1x256x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_c_7 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "rootlog2e" => some (((Real.sqrt 128)⁻¹ * (Real.log 2)⁻¹ : ℝ) : EReal)
  | _ => none
-- ==== ReferenceIdeal.lean ====
abbrev S4x4096x2048 : Shape := ⟨3, ![4, 4096, 2048]⟩
abbrev S4x4096x1024 : Shape := ⟨3, ![4, 4096, 1024]⟩
abbrev S32x16 : Shape := ⟨2, ![32, 16]⟩
abbrev S2x16 : Shape := ⟨2, ![2, 16]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S128x256x1 : Shape := ⟨3, ![128, 256, 1]⟩
abbrev S128x256x16 : Shape := ⟨3, ![128, 256, 16]⟩
abbrev S16x128x256 : Shape := ⟨3, ![16, 128, 256]⟩
abbrev S4x4x1x128x256 : Shape := ⟨5, ![4, 4, 1, 128, 256]⟩
abbrev S4x4096x512 : Shape := ⟨3, ![4, 4096, 512]⟩
abbrev S4x32x128x4x128 : Shape := ⟨5, ![4, 32, 128, 4, 128]⟩
abbrev S4x1x128x4x128 : Shape := ⟨5, ![4, 1, 128, 4, 128]⟩
abbrev S4x31x128x4x128 : Shape := ⟨5, ![4, 31, 128, 4, 128]⟩
abbrev S4x32x256x4x128 : Shape := ⟨5, ![4, 32, 256, 4, 128]⟩
abbrev S4x32x128x4x4x128 : Shape := ⟨6, ![4, 32, 128, 4, 4, 128]⟩
abbrev S4x4x32x256x128x4 : Shape := ⟨6, ![4, 4, 32, 256, 128, 4]⟩
abbrev S4x4x4x32x128x256 : Shape := ⟨6, ![4, 4, 4, 32, 128, 256]⟩
abbrev S1x4x4x1x128x256 : Shape := ⟨6, ![1, 4, 4, 1, 128, 256]⟩
abbrev S1x16 : Shape := ⟨2, ![1, 16]⟩
abbrev S16 : Shape := ⟨1, ![16]⟩
abbrev S4x4x1x1x1 : Shape := ⟨5, ![4, 4, 1, 1, 1]⟩
abbrev S4x4x4x32x128x1 : Shape := ⟨6, ![4, 4, 4, 32, 128, 1]⟩
abbrev S4x4x4x32x128x257 : Shape := ⟨6, ![4, 4, 4, 32, 128, 257]⟩
abbrev S4x4x4x32x128 : Shape := ⟨5, ![4, 4, 4, 32, 128]⟩
abbrev S4x32x4x128x4x128 : Shape := ⟨6, ![4, 32, 4, 128, 4, 128]⟩

abbrev nBuf : Space → Nat
  | .hbm => 134
  | .vmem => 0
  | .smem => 0
  | _ => 0

abbrev hbmTy0_0 (i : Nat) : BufTy := match i % 128 with
  | 0 => ⟨S4x4096x2048, .f32⟩
  | 1 => ⟨S4x4096x1024, .f32⟩
  | 2 => ⟨S32x16, .f32⟩
  | 3 => ⟨S2x16, .f32⟩
  | 4 => ⟨S128, .i32⟩
  | 5 => ⟨S128x1, .i32⟩
  | 6 => ⟨S256, .i32⟩
  | 7 => ⟨S1x256, .i32⟩
  | 8 => ⟨S_, .i32⟩
  | 9 => ⟨S128x1, .i32⟩
  | 10 => ⟨S128x1, .i32⟩
  | 11 => ⟨S128x256, .i32⟩
  | 12 => ⟨S128x256, .i32⟩
  | 13 => ⟨S128x256, .i32⟩
  | 14 => ⟨S_, .i32⟩
  | 15 => ⟨S128x256, .i32⟩
  | 16 => ⟨S128x256, .i1⟩
  | 17 => ⟨S_, .i32⟩
  | 18 => ⟨S128x256, .i32⟩
  | 19 => ⟨S128x256, .i1⟩
  | 20 => ⟨S128x256, .i1⟩
  | 21 => ⟨S32, .i32⟩
  | 22 => ⟨S32x1x1, .i32⟩
  | 23 => ⟨S_, .i32⟩
  | 24 => ⟨S32x1x1, .i32⟩
  | 25 => ⟨S32x1x1, .i32⟩
  | 26 => ⟨S1x1x256, .i32⟩
  | 27 => ⟨S32x1x256, .i32⟩
  | 28 => ⟨S32x1x256, .i32⟩
  | 29 => ⟨S32x1x256, .i32⟩
  | 30 => ⟨S_, .i32⟩
  | 31 => ⟨S32x1x256, .i32⟩
  | 32 => ⟨S32x1x256, .i32⟩
  | 33 => ⟨S_, .i32⟩
  | 34 => ⟨S32x1x256, .i32⟩
  | 35 => ⟨S32x1x256, .i1⟩
  | 36 => ⟨S1x128x256, .i1⟩
  | 37 => ⟨S32x128x256, .i1⟩
  | 38 => ⟨S32x128x256, .i1⟩
  | 39 => ⟨S32x128x256, .i1⟩
  | 40 => ⟨S_, .i32⟩
  | 41 => ⟨S128x256, .i32⟩
  | 42 => ⟨S128x256, .i32⟩
  | 43 => ⟨S_, .i32⟩
  | 44 => ⟨S128x256, .i32⟩
  | 45 => ⟨S128x256, .i32⟩
  | 46 => ⟨S128x256, .f32⟩
  | 47 => ⟨S_, .f32⟩
  | 48 => ⟨S128x256, .f32⟩
  | 49 => ⟨S128x256, .f32⟩
  | 50 => ⟨S128x256, .f32⟩
  | 51 => ⟨S_, .f32⟩
  | 52 => ⟨S128x256, .f32⟩
  | 53 => ⟨S128x256, .f32⟩
  | 54 => ⟨S_, .f32⟩
  | 55 => ⟨S128x256, .f32⟩
  | 56 => ⟨S128x256, .f32⟩
  | 57 => ⟨S128x256, .i32⟩
  | 58 => ⟨S_, .i32⟩
  | 59 => ⟨S128x256, .i32⟩
  | 60 => ⟨S128x256, .i32⟩
  | 61 => ⟨S_, .i32⟩
  | 62 => ⟨S128x256, .i32⟩
  | 63 => ⟨S128x256, .i32⟩
  | 64 => ⟨S_, .i32⟩
  | 65 => ⟨S128x256, .i32⟩
  | 66 => ⟨S128x256, .i1⟩
  | 67 => ⟨S128x256, .i32⟩
  | 68 => ⟨S_, .i32⟩
  | 69 => ⟨S128x256, .i32⟩
  | 70 => ⟨S128x256, .i1⟩
  | 71 => ⟨S_, .i32⟩
  | 72 => ⟨S128x256, .i32⟩
  | 73 => ⟨S128x256, .i32⟩
  | 74 => ⟨S128x256, .i32⟩
  | 75 => ⟨S128x256x1, .i32⟩
  | 76 => ⟨S128x256x16, .f32⟩
  | 77 => ⟨S16x128x256, .f32⟩
  | 78 => ⟨S4x4x1x128x256, .f32⟩
  | 79 => ⟨S4x4096x512, .f32⟩
  | 80 => ⟨S4x4096x512, .f32⟩
  | 81 => ⟨S4x32x128x4x128, .f32⟩
  | 82 => ⟨S4x1x128x4x128, .f32⟩
  | 83 => ⟨S_, .f32⟩
  | 84 => ⟨S4x1x128x4x128, .f32⟩
  | 85 => ⟨S4x31x128x4x128, .f32⟩
  | 86 => ⟨S4x32x128x4x128, .f32⟩
  | 87 => ⟨S4x32x256x4x128, .f32⟩
  | 88 => ⟨S4x32x128x4x128, .f32⟩
  | 89 => ⟨S4x1x128x4x128, .f32⟩
  | 90 => ⟨S_, .f32⟩
  | 91 => ⟨S4x1x128x4x128, .f32⟩
  | 92 => ⟨S4x31x128x4x128, .f32⟩
  | 93 => ⟨S4x32x128x4x128, .f32⟩
  | 94 => ⟨S4x32x256x4x128, .f32⟩
  | 95 => ⟨S4x32x128x4x4x128, .f32⟩
  | 96 => ⟨S4x4x32x256x128x4, .f32⟩
  | 97 => ⟨S4x4x4x32x128x256, .f32⟩
  | 98 => ⟨S_, .f32⟩
  | 99 => ⟨S_, .f32⟩
  | 100 => ⟨S4x4x4x32x128x256, .f32⟩
  | 101 => ⟨S4x4x4x32x128x256, .f32⟩
  | 102 => ⟨S1x4x4x1x128x256, .f32⟩
  | 103 => ⟨S4x4x4x32x128x256, .f32⟩
  | 104 => ⟨S4x4x4x32x128x256, .f32⟩
  | 105 => ⟨S_, .f32⟩
  | 106 => ⟨S_, .f32⟩
  | 107 => ⟨S4x4x4x32x128x256, .i1⟩
  | 108 => ⟨S4x4x4x32x128x256, .f32⟩
  | 109 => ⟨S4x4x4x32x128x256, .f32⟩
  | 110 => ⟨S1x16, .f32⟩
  | 111 => ⟨S16, .f32⟩
  | 112 => ⟨S4x4x1x1x1, .f32⟩
  | 113 => ⟨S4x4x4x32x128x1, .f32⟩
  | 114 => ⟨S4x4x4x32x128x257, .f32⟩
  | 115 => ⟨S_, .f32⟩
  | 116 => ⟨S4x4x4x32x128, .f32⟩
  | 117 => ⟨S_, .f32⟩
  | 118 => ⟨S4x4x4x32x128, .f32⟩
  | 119 => ⟨S4x4x4x32x128, .f32⟩
  | 120 => ⟨S4x4x4x32x128x1, .f32⟩
  | 121 => ⟨S4x4x4x32x128x257, .f32⟩
  | 122 => ⟨S4x4x4x32x128x257, .f32⟩
  | 123 => ⟨S4x4x4x32x128x257, .f32⟩
  | 124 => ⟨S_, .f32⟩
  | 125 => ⟨S4x4x4x32x128, .f32⟩
  | 126 => ⟨S4x4x4x32x128x1, .f32⟩
  | 127 => ⟨S4x4x4x32x128x257, .f32⟩
  | _ => ⟨S4x4096x2048, .f32⟩

abbrev hbmTy0_1 (i : Nat) : BufTy := match i % 128 with
  | 0 => ⟨S4x4x4x32x128x257, .f32⟩
  | 1 => ⟨S4x4x4x32x128x256, .f32⟩
  | 2 => ⟨S4x32x4x128x4x128, .f32⟩
  | 3 => ⟨S4x32x128x4x4x128, .f32⟩
  | 4 => ⟨S4x4096x2048, .f32⟩
  | 5 => ⟨S4x4096x2048, .bf16⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_c_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_5 : Ref sig .tc := ⟨.hbm, 40, rfl⟩
abbrev main_v30 : Ref sig .tc := ⟨.hbm, 41, rfl⟩
abbrev main_v31 : Ref sig .tc := ⟨.hbm, 42, rfl⟩
abbrev main_c_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_9 : Ref sig .tc := ⟨.hbm, 58, rfl⟩
abbrev main_v43 : Ref sig .tc := ⟨.hbm, 59, rfl⟩
abbrev main_v44 : Ref sig .tc := ⟨.hbm, 60, rfl⟩
abbrev main_c_10 : Ref sig .tc := ⟨.hbm, 61, rfl⟩
abbrev main_v45 : Ref sig .tc := ⟨.hbm, 62, rfl⟩
abbrev main_v46 : Ref sig .tc := ⟨.hbm, 63, rfl⟩
abbrev main_c_11 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_12 : Ref sig .tc := ⟨.hbm, 68, rfl⟩
abbrev main_v50 : Ref sig .tc := ⟨.hbm, 69, rfl⟩
abbrev main_v51 : Ref sig .tc := ⟨.hbm, 70, rfl⟩
abbrev main_c_13 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_14 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_15 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_16 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_17 : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_18 : Ref sig .tc := ⟨.hbm, 115, rfl⟩
abbrev main_v88 : Ref sig .tc := ⟨.hbm, 116, rfl⟩
abbrev main_cst_19 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_20 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩

abbrev nD : Nat := 1
abbrev τ : Topo := Topo.v7x

variable {F : FTy → Type} [FloatOps F]
-- ==== Kernel2.lean ====
abbrev S4x4096x2048 : Shape := ⟨3, ![4, 4096, 2048]⟩
abbrev S4x2048x11008 : Shape := ⟨3, ![4, 2048, 11008]⟩
abbrev S4x3x11008 : Shape := ⟨3, ![4, 3, 11008]⟩
abbrev S4x11008 : Shape := ⟨2, ![4, 11008]⟩
abbrev S4x5504x2048 : Shape := ⟨3, ![4, 5504, 2048]⟩
abbrev S4x2x2048 : Shape := ⟨3, ![4, 2, 2048]⟩
abbrev S16384x2048 : Shape := ⟨2, ![16384, 2048]⟩
abbrev S4x2048x5504 : Shape := ⟨3, ![4, 2048, 5504]⟩
abbrev S_ : Shape := ⟨0, ![]⟩
abbrev S4x2048x6144 : Shape := ⟨3, ![4, 2048, 6144]⟩
abbrev S4x3x5504 : Shape := ⟨3, ![4, 3, 5504]⟩
abbrev S4x3x6144 : Shape := ⟨3, ![4, 3, 6144]⟩
abbrev S4x1x11008 : Shape := ⟨3, ![4, 1, 11008]⟩
abbrev S4x1x5504 : Shape := ⟨3, ![4, 1, 5504]⟩
abbrev S4x1x6144 : Shape := ⟨3, ![4, 1, 6144]⟩
abbrev S4x6144x2048 : Shape := ⟨3, ![4, 6144, 2048]⟩
abbrev S1x1x2048 : Shape := ⟨3, ![1, 1, 2048]⟩
abbrev S2048 : Shape := ⟨1, ![2048]⟩
abbrev S1x2048 : Shape := ⟨2, ![1, 2048]⟩
abbrev S512x2048 : Shape := ⟨2, ![512, 2048]⟩
abbrev S8x2048 : Shape := ⟨2, ![8, 2048]⟩
abbrev S1x2048x1024 : Shape := ⟨3, ![1, 2048, 1024]⟩
abbrev S1x3x1024 : Shape := ⟨3, ![1, 3, 1024]⟩
abbrev S1x1x1024 : Shape := ⟨3, ![1, 1, 1024]⟩
abbrev S1x1024x2048 : Shape := ⟨3, ![1, 1024, 2048]⟩
abbrev S520x2048 : Shape := ⟨2, ![520, 2048]⟩
abbrev S2x520x256 : Shape := ⟨3, ![2, 520, 256]⟩
abbrev S1x2048x256 : Shape := ⟨3, ![1, 2048, 256]⟩
abbrev S2048x256 : Shape := ⟨2, ![2048, 256]⟩
abbrev S520x256 : Shape := ⟨2, ![520, 256]⟩
abbrev S1x520x256 : Shape := ⟨3, ![1, 520, 256]⟩
abbrev S512x256 : Shape := ⟨2, ![512, 256]⟩
abbrev S1x1x256 : Shape := ⟨3, ![1, 1, 256]⟩
abbrev S1x256 : Shape := ⟨2, ![1, 256]⟩
abbrev S1x256x2048 : Shape := ⟨3, ![1, 256, 2048]⟩
abbrev S256x2048 : Shape := ⟨2, ![256, 2048]⟩
abbrev S512 : Shape := ⟨1, ![512]⟩
abbrev S512x1 : Shape := ⟨2, ![512, 1]⟩

abbrev nBuf : Space → Nat
  | .hbm => 46
  | .vmem => 28
  | .smem => 0
  | _ => 0

abbrev bufTy : (tb : Table) → Fin (tcTables nBuf tb) → BufTy
  | .hbm, ⟨0, _⟩ => ⟨S4x4096x2048, .f32⟩
  | .hbm, ⟨1, _⟩ => ⟨S4x2048x11008, .f32⟩
  | .hbm, ⟨2, _⟩ => ⟨S4x3x11008, .f32⟩
  | .hbm, ⟨3, _⟩ => ⟨S4x11008, .f32⟩
  | .hbm, ⟨4, _⟩ => ⟨S4x5504x2048, .f32⟩
  | .hbm, ⟨5, _⟩ => ⟨S4x2x2048, .f32⟩
  | .hbm, ⟨6, _⟩ => ⟨S4x2x2048, .f32⟩
  | .hbm, ⟨7, _⟩ => ⟨S16384x2048, .f32⟩
  | .hbm, ⟨8, _⟩ => ⟨S4x2048x5504, .f32⟩
  | .hbm, ⟨9, _⟩ => ⟨S4x2048x5504, .f32⟩
  | .hbm, ⟨10, _⟩ => ⟨S4x2048x5504, .bf16⟩
  | .hbm, ⟨11, _⟩ => ⟨S_, .i32⟩
  | .hbm, ⟨12, _⟩ => ⟨S_, .bf16⟩
  | .hbm, ⟨13, _⟩ => ⟨S4x2048x6144, .bf16⟩
  | .hbm, ⟨14, _⟩ => ⟨S4x2048x5504, .bf16⟩
  | .hbm, ⟨15, _⟩ => ⟨S_, .i32⟩
  | .hbm, ⟨16, _⟩ => ⟨S_, .bf16⟩
  | .hbm, ⟨17, _⟩ => ⟨S4x2048x6144, .bf16⟩
  | .hbm, ⟨18, _⟩ => ⟨S4x3x5504, .f32⟩
  | .hbm, ⟨19, _⟩ => ⟨S4x3x5504, .f32⟩
  | .hbm, ⟨20, _⟩ => ⟨S_, .i32⟩
  | .hbm, ⟨21, _⟩ => ⟨S_, .f32⟩
  | .hbm, ⟨22, _⟩ => ⟨S4x3x6144, .f32⟩
  | .hbm, ⟨23, _⟩ => ⟨S_, .i32⟩
  | .hbm, ⟨24, _⟩ => ⟨S_, .f32⟩
  | .hbm, ⟨25, _⟩ => ⟨S4x3x6144, .f32⟩
  | .hbm, ⟨26, _⟩ => ⟨S4x1x11008, .f32⟩
  | .hbm, ⟨27, _⟩ => ⟨S4x1x5504, .f32⟩
  | .hbm, ⟨28, _⟩ => ⟨S4x1x5504, .f32⟩
  | .hbm, ⟨29, _⟩ => ⟨S_, .i32⟩
  | .hbm, ⟨30, _⟩ => ⟨S_, .f32⟩
  | .hbm, ⟨31, _⟩ => ⟨S4x1x6144, .f32⟩
  | .hbm, ⟨32, _⟩ => ⟨S_, .i32⟩
  | .hbm, ⟨33, _⟩ => ⟨S_, .f32⟩
  | .hbm, ⟨34, _⟩ => ⟨S4x1x6144, .f32⟩
  | .hbm, ⟨35, _⟩ => ⟨S4x5504x2048, .bf16⟩
  | .hbm, ⟨36, _⟩ => ⟨S_, .i32⟩
  | .hbm, ⟨37, _⟩ => ⟨S_, .bf16⟩
  | .hbm, ⟨38, _⟩ => ⟨S4x6144x2048, .bf16⟩
  | .hbm, ⟨39, _⟩ => ⟨S1x1x2048, .f32⟩
  | .hbm, ⟨40, _⟩ => ⟨S2048, .f32⟩
  | .hbm, ⟨41, _⟩ => ⟨S1x2048, .f32⟩
  | .hbm, ⟨42, _⟩ => ⟨S1x1x2048, .f32⟩
  | .hbm, ⟨43, _⟩ => ⟨S2048, .f32⟩
  | .hbm, ⟨44, _⟩ => ⟨S1x2048, .f32⟩
  | .hbm, ⟨45, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S8x2048, .f32⟩
  | .local _ .vmem, ⟨3, _⟩ => ⟨S8x2048, .f32⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1x3x1024, .f32⟩
  | .local _ .vmem, ⟨9, _⟩ => ⟨S1x3x1024, .f32⟩
  | .local _ .vmem, ⟨10, _⟩ => ⟨S1x3x1024, .f32⟩
  | .local _ .vmem, ⟨11, _⟩ => ⟨S1x3x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024x2048, .bf16⟩
  | .local _ .vmem, ⟨17, _⟩ => ⟨S1x1024x2048, .bf16⟩
  | .local _ .vmem, ⟨18, _⟩ => ⟨S1x2048, .f32⟩
  | .local _ .vmem, ⟨19, _⟩ => ⟨S1x2048, .f32⟩
  | .local _ .vmem, ⟨20, _⟩ => ⟨S512x2048, .f32⟩
  | .local _ .vmem, ⟨21, _⟩ => ⟨S512x2048, .f32⟩
  | .local _ .vmem, ⟨22, _⟩ => ⟨S520x2048, .bf16⟩
  | .local _ .vmem, ⟨23, _⟩ => ⟨S512x2048, .f32⟩
  | .local _ .vmem, ⟨24, _⟩ => ⟨S2x520x256, .f32⟩
  | .local _ .vmem, ⟨25, _⟩ => ⟨S2x520x256, .f32⟩
  | .local _ .vmem, ⟨26, _⟩ => ⟨S2x520x256, .f32⟩
  | .local _ .vmem, ⟨27, _⟩ => ⟨S2x520x256, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_call2_v0 : Ref sig .tc := ⟨.hbm, 21, rfl⟩
abbrev main_v9 : Ref sig .tc := ⟨.hbm, 22, rfl⟩
abbrev main_c_2 : Ref sig .tc := ⟨.hbm, 23, rfl⟩
abbrev main_call3_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_call4_v0 : Ref sig .tc := ⟨.hbm, 30, rfl⟩
abbrev main_v14 : Ref sig .tc := ⟨.hbm, 31, rfl⟩
abbrev main_c_4 : Ref sig .tc := ⟨.hbm, 32, rfl⟩
abbrev main_call5_v0 : Ref sig .tc := ⟨.hbm, 33, rfl⟩
abbrev main_v15 : Ref sig .tc := ⟨.hbm, 34, rfl⟩
abbrev main_v16 : Ref sig .tc := ⟨.hbm, 35, rfl⟩
abbrev main_c_5 : Ref sig .tc := ⟨.hbm, 36, rfl⟩
abbrev main_call6_v0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![32, 6], ![false, false]⟩

def k0_cond2 (i : grid0.Coords) : BitVec 1 :=
  let arg1 : BitVec 32 := BitVec.ofNat 32 (i 1).val
  let c5_i32 : BitVec 32 := 5#32
  let v3 : BitVec 1 := Scalar.cmpi .slt arg1 c5_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg1 : BitVec 32 := BitVec.ofNat 32 (i 1).val
  let c0_i32_5 : BitVec 32 := 0#32
  let v10 : BitVec 32 := Scalar.minsi arg1 c0_i32_5
  let v14 : Index := Scalar.indexCast v10
  let c0_9 : Index := 0#32
  let c0_10 : Index := 0#32
  ![v14.toNat, 0, 0]
def k0_off2 (i : grid0.Coords) : Fin 3 → Nat :=
  let arg1 : BitVec 32 := BitVec.ofNat 32 (i 1).val
  let c0_i32_5 : BitVec 32 := 0#32
  let v10 : BitVec 32 := Scalar.minsi arg1 c0_i32_5
  let c1_i32 : BitVec 32 := 1#32
  let v21 : BitVec 32 := Scalar.addi v10 c1_i32
  let v22 : Index := Scalar.indexCast v21
  let c0_15 : Index := 0#32
  let c0_16 : Index := 0#32
  ![v22.toNat, 0, 0]
def k0_cond3 (i : grid0.Coords) : BitVec 1 :=
  let arg1 : BitVec 32 := BitVec.ofNat 32 (i 1).val
  let c5_i32_2 : BitVec 32 := 5#32
  let v6 : BitVec 1 := Scalar.cmpi .eq arg1 c5_i32_2
  let v7 : BitVec 32 := Scalar.extui v6
  let c0_i32_3 : BitVec 32 := 0#32
  let v8 : BitVec 1 := Scalar.cmpi .ne v7 c0_i32_3
  v8

def k0_off3 (i : grid0.Coords) : Fin 3 → Nat :=
  let arg1 : BitVec 32 := BitVec.ofNat 32 (i 1).val
  let c0_i32_5 : BitVec 32 := 0#32
  let v10 : BitVec 32 := Scalar.minsi arg1 c0_i32_5
  let v14 : Index := Scalar.indexCast v10
  let c0_9 : Index := 0#32
  let c0_10 : Index := 0#32
  ![v14.toNat, 0, 0]
def k0_off4 (i : grid0.Coords) : Fin 3 → Nat :=
  let arg1 : BitVec 32 := BitVec.ofNat 32 (i 1).val
  let c0_i32_5 : BitVec 32 := 0#32
  let v10 : BitVec 32 := Scalar.minsi arg1 c0_i32_5
  let c1_i32 : BitVec 32 := 1#32
  let v21 : BitVec 32 := Scalar.addi v10 c1_i32
  let v22 : Index := Scalar.indexCast v21
  let c0_15 : Index := 0#32
  let c0_16 : Index := 0#32
  ![v22.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x3x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference2Ideal.lean ====
abbrev S4x4096x2048 : Shape := ⟨3, ![4, 4096, 2048]⟩
abbrev S4x2048x11008 : Shape := ⟨3, ![4, 2048, 11008]⟩
abbrev S4x3x11008 : Shape := ⟨3, ![4, 3, 11008]⟩
abbrev S4x11008 : Shape := ⟨2, ![4, 11008]⟩
abbrev S4x5504x2048 : Shape := ⟨3, ![4, 5504, 2048]⟩
abbrev S4x2x2048 : Shape := ⟨3, ![4, 2, 2048]⟩
abbrev S1x2048x11008 : Shape := ⟨3, ![1, 2048, 11008]⟩
abbrev S2048x11008 : Shape := ⟨2, ![2048, 11008]⟩
abbrev S4x4096x11008 : Shape := ⟨3, ![4, 4096, 11008]⟩
abbrev S_ : Shape := ⟨0, ![]⟩
abbrev S4x4098x11008 : Shape := ⟨3, ![4, 4098, 11008]⟩
abbrev S1x3x11008 : Shape := ⟨3, ![1, 3, 11008]⟩
abbrev S3x11008 : Shape := ⟨2, ![3, 11008]⟩
abbrev S1x11008 : Shape := ⟨2, ![1, 11008]⟩
abbrev S11008 : Shape := ⟨1, ![11008]⟩
abbrev S1x1x11008 : Shape := ⟨3, ![1, 1, 11008]⟩
abbrev S4x4096x5504 : Shape := ⟨3, ![4, 4096, 5504]⟩
abbrev S1x5504x2048 : Shape := ⟨3, ![1, 5504, 2048]⟩
abbrev S5504x2048 : Shape := ⟨2, ![5504, 2048]⟩
abbrev S1x1x2048 : Shape := ⟨3, ![1, 1, 2048]⟩
abbrev S2048 : Shape := ⟨1, ![2048]⟩
abbrev S4x4096 : Shape := ⟨2, ![4, 4096]⟩
abbrev S4x4096x1 : Shape := ⟨3, ![4, 4096, 1]⟩
abbrev S16384x2048 : Shape := ⟨2, ![16384, 2048]⟩

abbrev nBuf : Space → Nat
  | .hbm => 101
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x2048x11008, .f32⟩
  | .hbm, ⟨2, _⟩ => ⟨S4x3x11008, .f32⟩
  | .hbm, ⟨3, _⟩ => ⟨S4x11008, .f32⟩
  | .hbm, ⟨4, _⟩ => ⟨S4x5504x2048, .f32⟩
  | .hbm, ⟨5, _⟩ => ⟨S4x2x2048, .f32⟩
  | .hbm, ⟨6, _⟩ => ⟨S4x2x2048, .f32⟩
  | .hbm, ⟨7, _⟩ => ⟨S1x2048x11008, .f32⟩
  | .hbm, ⟨8, _⟩ => ⟨S2048x11008, .f32⟩
  | .hbm, ⟨9, _⟩ => ⟨S4x4096x11008, .f32⟩
  | .hbm, ⟨10, _⟩ => ⟨S_, .i32⟩
  | .hbm, ⟨11, _⟩ => ⟨S_, .f32⟩
  | .hbm, ⟨12, _⟩ => ⟨S4x4098x11008, .f32⟩
  | .hbm, ⟨13, _⟩ => ⟨S1x3x11008, .f32⟩
  | .hbm, ⟨14, _⟩ => ⟨S3x11008, .f32⟩
  | .hbm, ⟨15, _⟩ => ⟨S4x4096x11008, .f32⟩
  | .hbm, ⟨16, _⟩ => ⟨S1x11008, .f32⟩
  | .hbm, ⟨17, _⟩ => ⟨S11008, .f32⟩
  | .hbm, ⟨18, _⟩ => ⟨S1x1x11008, .f32⟩
  | .hbm, ⟨19, _⟩ => ⟨S4x4096x11008, .f32⟩
  | .hbm, ⟨20, _⟩ => ⟨S4x4096x11008, .f32⟩
  | .hbm, ⟨21, _⟩ => ⟨S4x4096x11008, .f32⟩
  | .hbm, ⟨22, _⟩ => ⟨S1x11008, .f32⟩
  | .hbm, ⟨23, _⟩ => ⟨S11008, .f32⟩
  | .hbm, ⟨24, _⟩ => ⟨S1x1x11008, .f32⟩
  | .hbm, ⟨25, _⟩ => ⟨S4x4096x11008, .f32⟩
  | .hbm, ⟨26, _⟩ => ⟨S4x4096x11008, .f32⟩
  | .hbm, ⟨27, _⟩ => ⟨S4x4096x11008, .f32⟩
  | .hbm, ⟨28, _⟩ => ⟨S4x4096x11008, .f32⟩
  | .hbm, ⟨29, _⟩ => ⟨S1x11008, .f32⟩
  | .hbm, ⟨30, _⟩ => ⟨S11008, .f32⟩
  | .hbm, ⟨31, _⟩ => ⟨S1x1x11008, .f32⟩
  | .hbm, ⟨32, _⟩ => ⟨S4x4096x11008, .f32⟩
  | .hbm, ⟨33, _⟩ => ⟨S4x4096x11008, .f32⟩
  | .hbm, ⟨34, _⟩ => ⟨S4x4096x11008, .f32⟩
  | .hbm, ⟨35, _⟩ => ⟨S1x11008, .f32⟩
  | .hbm, ⟨36, _⟩ => ⟨S11008, .f32⟩
  | .hbm, ⟨37, _⟩ => ⟨S1x1x11008, .f32⟩
  | .hbm, ⟨38, _⟩ => ⟨S4x4096x11008, .f32⟩
  | .hbm, ⟨39, _⟩ => ⟨S4x4096x11008, .f32⟩
  | .hbm, ⟨40, _⟩ => ⟨S4x4096x5504, .f32⟩
  | .hbm, ⟨41, _⟩ => ⟨S4x4096x5504, .f32⟩
  | .hbm, ⟨42, _⟩ => ⟨S4x4096x5504, .f32⟩
  | .hbm, ⟨43, _⟩ => ⟨S4x4096x5504, .f32⟩
  | .hbm, ⟨44, _⟩ => ⟨S_, .f32⟩
  | .hbm, ⟨45, _⟩ => ⟨S4x4096x5504, .f32⟩
  | .hbm, ⟨46, _⟩ => ⟨S4x4096x5504, .f32⟩
  | .hbm, ⟨47, _⟩ => ⟨S4x4096x5504, .f32⟩
  | .hbm, ⟨48, _⟩ => ⟨S_, .f32⟩
  | .hbm, ⟨49, _⟩ => ⟨S4x4096x5504, .f32⟩
  | .hbm, ⟨50, _⟩ => ⟨S4x4096x5504, .f32⟩
  | .hbm, ⟨51, _⟩ => ⟨S4x4096x5504, .f32⟩
  | .hbm, ⟨52, _⟩ => ⟨S_, .f32⟩
  | .hbm, ⟨53, _⟩ => ⟨S4x4096x5504, .f32⟩
  | .hbm, ⟨54, _⟩ => ⟨S4x4096x5504, .f32⟩
  | .hbm, ⟨55, _⟩ => ⟨S_, .f32⟩
  | .hbm, ⟨56, _⟩ => ⟨S4x4096x5504, .f32⟩
  | .hbm, ⟨57, _⟩ => ⟨S4x4096x5504, .f32⟩
  | .hbm, ⟨58, _⟩ => ⟨S4x4096x5504, .f32⟩
  | .hbm, ⟨59, _⟩ => ⟨S4x4096x5504, .f32⟩
  | .hbm, ⟨60, _⟩ => ⟨S1x5504x2048, .f32⟩
  | .hbm, ⟨61, _⟩ => ⟨S5504x2048, .f32⟩
  | .hbm, ⟨62, _⟩ => ⟨S4x4096x2048, .f32⟩
  | .hbm, ⟨63, _⟩ => ⟨S_, .f32⟩
  | .hbm, ⟨64, _⟩ => ⟨S4x4096x2048, .f32⟩
  | .hbm, ⟨65, _⟩ => ⟨S4x4096x2048, .f32⟩
  | .hbm, ⟨66, _⟩ => ⟨S4x4096x2048, .f32⟩
  | .hbm, ⟨67, _⟩ => ⟨S1x1x2048, .f32⟩
  | .hbm, ⟨68, _⟩ => ⟨S2048, .f32⟩
  | .hbm, ⟨69, _⟩ => ⟨S1x1x2048, .f32⟩
  | .hbm, ⟨70, _⟩ => ⟨S2048, .f32⟩
  | .hbm, ⟨71, _⟩ => ⟨S_, .f32⟩
  | .hbm, ⟨72, _⟩ => ⟨S4x4096, .f32⟩
  | .hbm, ⟨73, _⟩ => ⟨S4x4096x1, .f32⟩
  | .hbm, ⟨74, _⟩ => ⟨S_, .f32⟩
  | .hbm, ⟨75, _⟩ => ⟨S4x4096x1, .f32⟩
  | .hbm, ⟨76, _⟩ => ⟨S4x4096x1, .f32⟩
  | .hbm, ⟨77, _⟩ => ⟨S4x4096x2048, .f32⟩
  | .hbm, ⟨78, _⟩ => ⟨S4x4096x2048, .f32⟩
  | .hbm, ⟨79, _⟩ => ⟨S4x4096x2048, .f32⟩
  | .hbm, ⟨80, _⟩ => ⟨S_, .f32⟩
  | .hbm, ⟨81, _⟩ => ⟨S4x4096, .f32⟩
  | .hbm, ⟨82, _⟩ => ⟨S4x4096x1, .f32⟩
  | .hbm, ⟨83, _⟩ => ⟨S_, .f32⟩
  | .hbm, ⟨84, _⟩ => ⟨S4x4096x1, .f32⟩
  | .hbm, ⟨85, _⟩ => ⟨S4x4096x1, .f32⟩
  | .hbm, ⟨86, _⟩ => ⟨S4x4096x2048, .f32⟩
  | .hbm, ⟨87, _⟩ => ⟨S4x4096x2048, .f32⟩
  | .hbm, ⟨88, _⟩ => ⟨S_, .f32⟩
  | .hbm, ⟨89, _⟩ => ⟨S4x4096x1, .f32⟩
  | .hbm, ⟨90, _⟩ => ⟨S4x4096x1, .f32⟩
  | .hbm, ⟨91, _⟩ => ⟨S4x4096x1, .f32⟩
  | .hbm, ⟨92, _⟩ => ⟨S4x4096x2048, .f32⟩
  | .hbm, ⟨93, _⟩ => ⟨S4x4096x2048, .f32⟩
  | .hbm, ⟨94, _⟩ => ⟨S1x1x2048, .f32⟩
  | .hbm, ⟨95, _⟩ => ⟨S4x4096x2048, .f32⟩
  | .hbm, ⟨96, _⟩ => ⟨S4x4096x2048, .f32⟩
  | .hbm, ⟨97, _⟩ => ⟨S1x1x2048, .f32⟩
  | .hbm, ⟨98, _⟩ => ⟨S4x4096x2048, .f32⟩
  | .hbm, ⟨99, _⟩ => ⟨S4x4096x2048, .f32⟩
  | .hbm, ⟨100, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_0 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_1 : Ref sig .tc := ⟨.hbm, 52, rfl⟩
abbrev main_v41 : Ref sig .tc := ⟨.hbm, 53, rfl⟩
abbrev main_v42 : Ref sig .tc := ⟨.hbm, 54, rfl⟩
abbrev main_cst_2 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_3 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_4 : Ref sig .tc := ⟨.hbm, 71, rfl⟩
abbrev main_v57 : Ref sig .tc := ⟨.hbm, 72, rfl⟩
abbrev main_v58 : Ref sig .tc := ⟨.hbm, 73, rfl⟩
abbrev main_cst_5 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_6 : Ref sig .tc := ⟨.hbm, 80, rfl⟩
abbrev main_v64 : Ref sig .tc := ⟨.hbm, 81, rfl⟩
abbrev main_v65 : Ref sig .tc := ⟨.hbm, 82, rfl⟩
abbrev main_cst_7 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_8 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩

abbrev nD : Nat := 1
abbrev τ : Topo := Topo.v7x

variable {F : FTy → Type} [FloatOps F]
-- ==== Kernel3.lean ====
abbrev S4x4096x2048 : Shape := ⟨3, ![4, 4096, 2048]⟩
abbrev S2x2048x2048 : Shape := ⟨3, ![2, 2048, 2048]⟩
abbrev S4x2x2048 : Shape := ⟨3, ![4, 2, 2048]⟩
abbrev S16384x2048 : Shape := ⟨2, ![16384, 2048]⟩
abbrev S1x1x2048 : Shape := ⟨3, ![1, 1, 2048]⟩
abbrev S2048 : Shape := ⟨1, ![2048]⟩
abbrev S1x2048 : Shape := ⟨2, ![1, 2048]⟩
abbrev S512x2048 : Shape := ⟨2, ![512, 2048]⟩
abbrev S1x2048x2048 : Shape := ⟨3, ![1, 2048, 2048]⟩
abbrev S256x2048 : Shape := ⟨2, ![256, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 15
  | .vmem => 9
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x2048, .f32⟩
  | .hbm, ⟨2, _⟩ => ⟨S2x2048x2048, .f32⟩
  | .hbm, ⟨3, _⟩ => ⟨S4x2x2048, .f32⟩
  | .hbm, ⟨4, _⟩ => ⟨S4x2x2048, .f32⟩
  | .hbm, ⟨5, _⟩ => ⟨S16384x2048, .bf16⟩
  | .hbm, ⟨6, _⟩ => ⟨S2x2048x2048, .bf16⟩
  | .hbm, ⟨7, _⟩ => ⟨S16384x2048, .f32⟩
  | .hbm, ⟨8, _⟩ => ⟨S1x1x2048, .f32⟩
  | .hbm, ⟨9, _⟩ => ⟨S2048, .f32⟩
  | .hbm, ⟨10, _⟩ => ⟨S1x2048, .f32⟩
  | .hbm, ⟨11, _⟩ => ⟨S1x1x2048, .f32⟩
  | .hbm, ⟨12, _⟩ => ⟨S2048, .f32⟩
  | .hbm, ⟨13, _⟩ => ⟨S1x2048, .f32⟩
  | .hbm, ⟨14, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S4x4096x2048 : Shape := ⟨3, ![4, 4096, 2048]⟩
abbrev S2x2048x2048 : Shape := ⟨3, ![2, 2048, 2048]⟩
abbrev S4x2x2048 : Shape := ⟨3, ![4, 2, 2048]⟩
abbrev S1x2048x2048 : Shape := ⟨3, ![1, 2048, 2048]⟩
abbrev S2048x2048 : Shape := ⟨2, ![2048, 2048]⟩
abbrev S_ : Shape := ⟨0, ![]⟩
abbrev S1x1x2048 : Shape := ⟨3, ![1, 1, 2048]⟩
abbrev S2048 : Shape := ⟨1, ![2048]⟩
abbrev S4x4096 : Shape := ⟨2, ![4, 4096]⟩
abbrev S4x4096x1 : Shape := ⟨3, ![4, 4096, 1]⟩
abbrev S16384x2048 : Shape := ⟨2, ![16384, 2048]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x2048, .f32⟩
  | .hbm, ⟨2, _⟩ => ⟨S2x2048x2048, .f32⟩
  | .hbm, ⟨3, _⟩ => ⟨S4x2x2048, .f32⟩
  | .hbm, ⟨4, _⟩ => ⟨S4x2x2048, .f32⟩
  | .hbm, ⟨5, _⟩ => ⟨S4x4096x2048, .f32⟩
  | .hbm, ⟨6, _⟩ => ⟨S1x2048x2048, .f32⟩
  | .hbm, ⟨7, _⟩ => ⟨S2048x2048, .f32⟩
  | .hbm, ⟨8, _⟩ => ⟨S4x4096x2048, .f32⟩
  | .hbm, ⟨9, _⟩ => ⟨S_, .f32⟩
  | .hbm, ⟨10, _⟩ => ⟨S4x4096x2048, .f32⟩
  | .hbm, ⟨11, _⟩ => ⟨S4x4096x2048, .f32⟩
  | .hbm, ⟨12, _⟩ => ⟨S4x4096x2048, .f32⟩
  | .hbm, ⟨13, _⟩ => ⟨S1x1x2048, .f32⟩
  | .hbm, ⟨14, _⟩ => ⟨S2048, .f32⟩
  | .hbm, ⟨15, _⟩ => ⟨S1x1x2048, .f32⟩
  | .hbm, ⟨16, _⟩ => ⟨S2048, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S_, .f32⟩
  | .hbm, ⟨27, _⟩ => ⟨S4x4096, .f32⟩
  | .hbm, ⟨28, _⟩ => ⟨S4x4096x1, .f32⟩
  | .hbm, ⟨29, _⟩ => ⟨S_, .f32⟩
  | .hbm, ⟨30, _⟩ => ⟨S4x4096x1, .f32⟩
  | .hbm, ⟨31, _⟩ => ⟨S4x4096x1, .f32⟩
  | .hbm, ⟨32, _⟩ => ⟨S4x4096x2048, .f32⟩
  | .hbm, ⟨33, _⟩ => ⟨S4x4096x2048, .f32⟩
  | .hbm, ⟨34, _⟩ => ⟨S_, .f32⟩
  | .hbm, ⟨35, _⟩ => ⟨S4x4096x1, .f32⟩
  | .hbm, ⟨36, _⟩ => ⟨S4x4096x1, .f32⟩
  | .hbm, ⟨37, _⟩ => ⟨S4x4096x1, .f32⟩
  | .hbm, ⟨38, _⟩ => ⟨S4x4096x2048, .f32⟩
  | .hbm, ⟨39, _⟩ => ⟨S4x4096x2048, .f32⟩
  | .hbm, ⟨40, _⟩ => ⟨S1x1x2048, .f32⟩
  | .hbm, ⟨41, _⟩ => ⟨S4x4096x2048, .f32⟩
  | .hbm, ⟨42, _⟩ => ⟨S4x4096x2048, .f32⟩
  | .hbm, ⟨43, _⟩ => ⟨S1x1x2048, .f32⟩
  | .hbm, ⟨44, _⟩ => ⟨S4x4096x2048, .f32⟩
  | .hbm, ⟨45, _⟩ => ⟨S4x4096x2048, .f32⟩
  | .hbm, ⟨46, _⟩ => ⟨S16384x2048, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel4.lean ====
abbrev S4x4096x2048 : Shape := ⟨3, ![4, 4096, 2048]⟩
abbrev S2x2048x2048 : Shape := ⟨3, ![2, 2048, 2048]⟩
abbrev S16384x2048 : Shape := ⟨2, ![16384, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S2x2048x2048, .f32⟩
  | .hbm, ⟨2, _⟩ => ⟨S16384x2048, .f32⟩
  | .hbm, ⟨3, _⟩ => ⟨S2x2048x2048, .bf16⟩
  | .hbm, ⟨4, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel4Ideal.lean ====
variable {F : FTy → Type} [FloatOps F] [Named F]
def κ : String → Option EReal := fun
  | "rootlog2e" => some (((Real.sqrt 128)⁻¹ * (Real.log 2)⁻¹ : ℝ) : EReal)
  | _ => none
-- ==== Reference4Ideal.lean ====
abbrev S4x4096x2048 : Shape := ⟨3, ![4, 4096, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S_ : Shape := ⟨0, ![]⟩
abbrev S16384x2048 : Shape := ⟨2, ![16384, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048x2048, .f32⟩
  | .hbm, ⟨2, _⟩ => ⟨S1x2048x2048, .f32⟩
  | .hbm, ⟨3, _⟩ => ⟨S2048x2048, .f32⟩
  | .hbm, ⟨4, _⟩ => ⟨S4x4096x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x4096x2048, .f32⟩
  | .hbm, ⟨11, _⟩ => ⟨S4x4096x2048, .f32⟩
  | .hbm, ⟨12, _⟩ => ⟨S16384x2048, .f32⟩
  | .hbm, ⟨13, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel5.lean ====
abbrev S4x4096x2048 : Shape := ⟨3, ![4, 4096, 2048]⟩
abbrev S2048x1024 : Shape := ⟨2, ![2048, 1024]⟩
abbrev S16384x2048 : Shape := ⟨2, ![16384, 2048]⟩
abbrev S1x2048x1024 : Shape := ⟨3, ![1, 2048, 1024]⟩
abbrev S16384x1024 : Shape := ⟨2, ![16384, 1024]⟩
abbrev S1024x2048 : Shape := ⟨2, ![1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x1024, .f32⟩
  | .hbm, ⟨2, _⟩ => ⟨S16384x2048, .f32⟩
  | .hbm, ⟨3, _⟩ => ⟨S2048x1024, .bf16⟩
  | .hbm, ⟨4, _⟩ => ⟨S1x2048x1024, .bf16⟩
  | .hbm, ⟨5, _⟩ => ⟨S16384x1024, .bf16⟩
  | .local _ .vmem, ⟨0, _⟩ => ⟨S1024x2048, .f32⟩
  | .local _ .vmem, ⟨1, _⟩ => ⟨S1024x2048, .f32⟩
  | .local _ .vmem, ⟨2, _⟩ => ⟨S1x2048x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4x4096x2048 : Shape := ⟨3, ![4, 4096, 2048]⟩
abbrev S2048x1024 : Shape := ⟨2, ![2048, 1024]⟩
abbrev S4x4096x1024 : Shape := ⟨3, ![4, 4096, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x1024, .f32⟩
  | .hbm, ⟨2, _⟩ => ⟨S4x4096x1024, .f32⟩
  | .hbm, ⟨3, _⟩ => ⟨S16384x1024, .f32⟩
  | .hbm, ⟨4, _⟩ => ⟨S16384x1024, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S4x4096x2048 : Shape := ⟨3, ![4, 4096, 2048]⟩
abbrev S2x2048x6144 : Shape := ⟨3, ![2, 2048, 6144]⟩
abbrev S16384x2048 : Shape := ⟨2, ![16384, 2048]⟩
abbrev S4x12x4096x512 : Shape := ⟨4, ![4, 12, 4096, 512]⟩
abbrev S1024x2048 : Shape := ⟨2, ![1024, 2048]⟩
abbrev S1x2048x1024 : Shape := ⟨3, ![1, 2048, 1024]⟩
abbrev S1x2x1024x512 : Shape := ⟨4, ![1, 2, 1024, 512]⟩
abbrev S2048x1024 : Shape := ⟨2, ![2048, 1024]⟩
abbrev S1024x1024 : Shape := ⟨2, ![1024, 1024]⟩
abbrev S1024x512 : Shape := ⟨2, ![1024, 512]⟩
abbrev S1x1x1024x512 : Shape := ⟨4, ![1, 1, 1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S2x2048x6144, .f32⟩
  | .hbm, ⟨2, _⟩ => ⟨S16384x2048, .f32⟩
  | .hbm, ⟨3, _⟩ => ⟨S2x2048x6144, .bf16⟩
  | .hbm, ⟨4, _⟩ => ⟨S4x12x4096x512, .bf16⟩
  | .local _ .vmem, ⟨0, _⟩ => ⟨S1024x2048, .f32⟩
  | .local _ .vmem, ⟨1, _⟩ => ⟨S1024x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x2x1024x512, .bf16⟩
  | .local _ .vmem, ⟨5, _⟩ => ⟨S1x2x1024x512, .bf16⟩
  | .local _ .vmem, ⟨6, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel6Ideal.lean ====
variable {F : FTy → Type} [FloatOps F] [Named F]
def κ : String → Option EReal := fun
  | "rootlog2e" => some (((Real.sqrt 128)⁻¹ * (Real.log 2)⁻¹ : ℝ) : EReal)
  | _ => none
-- ==== Reference6Ideal.lean ====
abbrev S4x4096x2048 : Shape := ⟨3, ![4, 4096, 2048]⟩
abbrev S2x2048x6144 : Shape := ⟨3, ![2, 2048, 6144]⟩
abbrev S1x2048x6144 : Shape := ⟨3, ![1, 2048, 6144]⟩
abbrev S2048x6144 : Shape := ⟨2, ![2048, 6144]⟩
abbrev S4x4096x6144 : Shape := ⟨3, ![4, 4096, 6144]⟩
abbrev S_ : Shape := ⟨0, ![]⟩
abbrev S4x4096x4x512 : Shape := ⟨4, ![4, 4096, 4, 512]⟩
abbrev S4x4x4096x512 : Shape := ⟨4, ![4, 4, 4096, 512]⟩
abbrev S4x12x4096x512 : Shape := ⟨4, ![4, 12, 4096, 512]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048x6144, .f32⟩
  | .hbm, ⟨2, _⟩ => ⟨S1x2048x6144, .f32⟩
  | .hbm, ⟨3, _⟩ => ⟨S2048x6144, .f32⟩
  | .hbm, ⟨4, _⟩ => ⟨S4x4096x6144, .f32⟩
  | .hbm, ⟨5, _⟩ => ⟨S4x4096x2048, .f32⟩
  | .hbm, ⟨6, _⟩ => ⟨S4x4096x2048, .f32⟩
  | .hbm, ⟨7, _⟩ => ⟨S4x4096x2048, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x4096x2048, .f32⟩
  | .hbm, ⟨14, _⟩ => ⟨S4x4096x2048, .f32⟩
  | .hbm, ⟨15, _⟩ => ⟨S4x4096x4x512, .f32⟩
  | .hbm, ⟨16, _⟩ => ⟨S4x4x4096x512, .f32⟩
  | .hbm, ⟨17, _⟩ => ⟨S4x4096x4x512, .f32⟩
  | .hbm, ⟨18, _⟩ => ⟨S4x4x4096x512, .f32⟩
  | .hbm, ⟨19, _⟩ => ⟨S4x4096x4x512, .f32⟩
  | .hbm, ⟨20, _⟩ => ⟨S4x4x4096x512, .f32⟩
  | .hbm, ⟨21, _⟩ => ⟨S4x12x4096x512, .f32⟩
  | .hbm, ⟨22, _⟩ => ⟨S4x12x4096x512, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== Proof.Frames.lean ====
/- The frames of the references: host operations end at once, keep their arguments and use no semaphore. -/
module

public import proofs.«01_k».proof.Defs
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Pre_finite
public import Idealize.ShloMosaic.Lib.Claim

@[expose] public section

set_option maxRecDepth 16384

noncomputable section

open Idealize.ShloMosaic Idealize.ShloMosaic.TcCoe Idealize.SL.Sem
open Idealize.ShloMosaic.Pipeline (Dat)

open Idealize.ShloMosaic Idealize.ShloMosaic.TcCoe Idealize.SL.Sem

namespace Cert.Frames

theorem reference : Cert.quiescent_ReferenceIdeal := fun m g _ =>
  (θ_run ReferenceIdeal.defs _ _).mono (fun r h => ⟨fun c => (h c).2, sem_eq_zero_of_no_sems (by decide) r.2⟩)
    (ReferenceIdeal.Value.run (F := Ideal) m g)

theorem reference_finite : Cert.quiescent_ReferenceIdeal_pre_finite := fun m g _ =>
  (θ_run ReferenceIdeal.defs _ _).mono (fun r h => ⟨fun c => (h c).2, sem_eq_zero_of_no_sems (by decide) r.2⟩)
    (ReferenceIdeal.Value.run (F := Ideal) m g)

theorem reference2 : Cert.quiescent_Reference2Ideal := fun m g _ =>
  (θ_run Reference2Ideal.defs _ _).mono (fun r h => ⟨fun c => (h c).2, sem_eq_zero_of_no_sems (by decide) r.2⟩)
    (Reference2Ideal.Value.run (F := Ideal) m g)

theorem reference3 : Cert.quiescent_Reference3Ideal := fun m g _ =>
  (θ_run Reference3Ideal.defs _ _).mono (fun r h => ⟨fun c => (h c).2, sem_eq_zero_of_no_sems (by decide) r.2⟩)
    (Reference3Ideal.Value.run (F := Ideal) m g)

theorem reference4 : Cert.quiescent_Reference4Ideal := fun m g _ =>
  (θ_run Reference4Ideal.defs _ _).mono (fun r h => ⟨fun c => (h c).2, sem_eq_zero_of_no_sems (by decide) r.2⟩)
    (Reference4Ideal.Value.run (F := Ideal) m g)

theorem reference5 : Cert.quiescent_Reference5Ideal := fun m g _ =>
  (θ_run Reference5Ideal.defs _ _).mono (fun r h => ⟨fun c => (h c).2, sem_eq_zero_of_no_sems (by decide) r.2⟩)
    (Reference5Ideal.Value.run (F := Ideal) m g)

theorem reference6 : Cert.quiescent_Reference6Ideal := fun m g _ =>
  (θ_run Reference6Ideal.defs _ _).mono (fun r h => ⟨fun c => (h c).2, sem_eq_zero_of_no_sems (by decide) r.2⟩)
    (Reference6Ideal.Value.run (F := Ideal) m g)

end Cert.Frames

end
-- ==== Proof.Band.lean ====
/- One block of queries against its band of keys: what the kernel computes for one group of heads, element by element. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Band
open Cert.KernelIdeal Cert.KernelIdeal.Gen

/-- The kernel's two named factors and its named mask. -/
abbrev root : Ideal .f32 := Named.named (F := Ideal) (φ := .f32) κ "rootlog2e" 0x3E0293EE#32
abbrev l2e : Ideal .f32 := Named.named (F := Ideal) (φ := .f32) κ "log2e" 0x3FB8AA3B#32
abbrev mask : Ideal .f32 := Named.named (F := Ideal) (φ := .f32) κ "mask" 0xF149F2CA#32

/-- Where the kernel's row maxima start. -/
abbrev low : Ideal .f32 := Ideal.ofBits .f32 0xFF800000#32

/-- The scores of the block before, in base two; `hp` says whether that block exists. -/
def before (hp : BitVec 1) (k : Fin 128 → Fin 128 → EReal) (q b : Fin 128 → EReal) (j : Fin 128) : EReal :=
  Scalar.select hp ((∑ e : Fin 128, k j e * q e) * root + b j * l2e) mask

/-- The scores of the block itself. -/
def own (k : Fin 128 → Fin 128 → EReal) (q b : Fin 128 → EReal) (j : Fin 128) : EReal :=
  (∑ e : Fin 128, k j e * q e) * root + b j * l2e

/-- One output element from the two blocks' scores, the values' column and the sink. -/
def mix (S T v w : Fin 128 → EReal) (s : EReal) : EReal :=
  let M := max (max (Finset.univ.fold max low S) (Finset.univ.fold max low T)) s
  Ideal.div ((∑ j : Fin 128, v j * Ideal.exp2 (S j - M)) + ∑ j : Fin 128, w j * Ideal.exp2 (T j - M))
    ((∑ j : Fin 128, Ideal.exp2 (S j - M)) + (∑ j : Fin 128, Ideal.exp2 (T j - M)) + Ideal.exp2 (s - M))

/-- The block before's scores as the kernel stores them. -/
def left (hp : BitVec 1) (K : FVec Ideal S1x128x128 .bf16) (Q0 Q1 Q2 Q3 : FVec Ideal S1x128x128 .bf16)
    (B : FVec Ideal S1x128x512 .f32) : FVec Ideal S128x512 .f32 :=
  Scalar.select hp (addf (mulf (k0_pay23 Q0 Q1 Q2 Q3 K) (broadcast S128x512 root))
    (mulf (shapeCast S128x512 B shapeCasts_S1x128x512_S128x512) (broadcast S128x512 l2e))) (broadcast S128x512 mask)

/-- The whole group's result, transposed. -/
def core (hp : BitVec 1) (K0 K1 V0 V1 Q0 Q1 Q2 Q3 : FVec Ideal S1x128x128 .bf16)
    (B0 B1 : FVec Ideal S1x128x512 .f32) (s : FVec Ideal S1x1x512 .f32) : FVec Ideal S128x512 .f32 :=
  k0_pay126 (k0_pay4 V0) (k0_pay8 V1)
    (k0_pay53 (left hp K0 Q0 Q1 Q2 Q3 B0) (k0_pay47 (k0_pay24 Q0 Q1 Q2 Q3 K1) B1) (k0_pay48 s))
    (k0_pay54 (left hp K0 Q0 Q1 Q2 Q3 B0) (k0_pay47 (k0_pay24 Q0 Q1 Q2 Q3 K1) B1) (k0_pay48 s))
    (k0_pay55 (left hp K0 Q0 Q1 Q2 Q3 B0) (k0_pay47 (k0_pay24 Q0 Q1 Q2 Q3 K1) B1) (k0_pay48 s))

/-- A head's part of it, as stored. -/
def head0 (X : FVec Ideal S128x512 .f32) : FVec Ideal S1x128x128 .bf16 :=
  shapeCast S1x128x128 (truncf .bf16 (transpose S128x128 [1, 0] (extractStridedSlice S128x128 ![0, 0] X slices_S128x512_o0_0_S128x128)
    transposes_S128x128_p1_0_S128x128) bitsLt_bf16_f32) shapeCasts_S128x128_S1x128x128
def head1 (X : FVec Ideal S128x512 .f32) : FVec Ideal S1x128x128 .bf16 :=
  shapeCast S1x128x128 (truncf .bf16 (transpose S128x128 [1, 0] (extractStridedSlice S128x128 ![0, 128] X slices_S128x512_o0_128_S128x128)
    transposes_S128x128_p1_0_S128x128) bitsLt_bf16_f32) shapeCasts_S128x128_S1x128x128
def head2 (X : FVec Ideal S128x512 .f32) : FVec Ideal S1x128x128 .bf16 :=
  shapeCast S1x128x128 (truncf .bf16 (transpose S128x128 [1, 0] (extractStridedSlice S128x128 ![0, 256] X slices_S128x512_o0_256_S128x128)
    transposes_S128x128_p1_0_S128x128) bitsLt_bf16_f32) shapeCasts_S128x128_S1x128x128
def head3 (X : FVec Ideal S128x512 .f32) : FVec Ideal S1x128x128 .bf16 :=
  shapeCast S1x128x128 (truncf .bf16 (transpose S128x128 [1, 0] (extractStridedSlice S128x128 ![0, 384] X slices_S128x512_o0_384_S128x128)
    transposes_S128x128_p1_0_S128x128) bitsLt_bf16_f32) shapeCasts_S128x128_S1x128x128

theorem low_eq : low = ⊥ := by
  simp [low, Ideal.ofBits, Ideal.ieee]

theorem eye_at (d e : Fin 128) : k0_pay3 (F := Ideal) (ix2 d e) = if d = e then (1 : EReal) else 0 := by
  pointwise [k0_pay3]
  by_cases h : d = e
  · subst h
    simp only [IntOp.cmpi, beq_self_eq_true, BitVec.ofBool_true, if_true]
    show (((BitVec.setWidth 32 1#1).toInt : ℝ) : EReal) = 1
    simp
  · have hn : BitVec.ofNat 32 (d : ℕ) ≠ BitVec.ofNat 32 (e : ℕ) := by
      intro hh
      have := congrArg BitVec.toNat hh
      simp only [BitVec.toNat_ofNat] at this
      exact h (Fin.ext (by omega))
    simp only [IntOp.cmpi, beq_false_of_ne hn, BitVec.ofBool_false, h, if_false]
    show (((BitVec.setWidth 32 0#1).toInt : ℝ) : EReal) = 0
    simp

theorem val_at (V : FVec Ideal S1x128x128 .bf16) (d j : Fin 128) : k0_pay4 (F := Ideal) V (ix2 d j) = V (ix3 0 j d) := by
  pointwise [k0_pay4]
  simp only [eye_at, ite_mul, one_mul, zero_mul, zero_add, Finset.sum_ite_eq, Finset.mem_univ, if_true]

theorem val_at' (V : FVec Ideal S1x128x128 .bf16) (d j : Fin 128) : k0_pay8 (F := Ideal) V (ix2 d j) = V (ix3 0 j d) :=
  val_at V d j

theorem row0_at (Q0 Q1 Q2 Q3 : FVec Ideal S1x128x128 .bf16) (r e : Fin 128) :
    k0_pay22 (F := Ideal) Q0 Q1 Q2 Q3 (ix2 ⟨r, by omega⟩ e) = Q0 (ix3 0 r e) := by
  pointwise [k0_pay22]

theorem head0_at (hp : BitVec 1) (K0 K1 V0 V1 Q0 Q1 Q2 Q3 : FVec Ideal S1x128x128 .bf16)
    (B0 B1 : FVec Ideal S1x128x512 .f32) (s : FVec Ideal S1x1x512 .f32) (r d : Fin 128) :
    head0 (core hp K0 K1 V0 V1 Q0 Q1 Q2 Q3 B0 B1 s) (ix3 0 r d)
    = mix (before hp (fun j e => K0 (ix3 0 j e)) (fun e => Q0 (ix3 0 r e)) fun j => B0 (ix3 0 j ⟨0 + r, by omega⟩))
        (own (fun j e => K1 (ix3 0 j e)) (fun e => Q0 (ix3 0 r e)) fun j => B1 (ix3 0 j ⟨0 + r, by omega⟩))
        (fun j => V0 (ix3 0 j d)) (fun j => V1 (ix3 0 j d)) (s (ix3 0 0 ⟨0 + r, by omega⟩) * l2e) := by
  pointwise [head0, core, left, k0_pay126, k0_pay53, k0_pay54, k0_pay55, k0_pay51, k0_pay52, k0_pay50, k0_pay49, k0_pay48, k0_pay47,
    k0_pay23, k0_pay24, row0_at, mix, before, own, val_at, val_at']
  rfl

theorem row1_at (Q0 Q1 Q2 Q3 : FVec Ideal S1x128x128 .bf16) (r e : Fin 128) :
    k0_pay22 (F := Ideal) Q0 Q1 Q2 Q3 (ix2 ⟨128 + r, by omega⟩ e) = Q1 (ix3 0 r e) := by
  pointwise [k0_pay22]

theorem head1_at (hp : BitVec 1) (K0 K1 V0 V1 Q0 Q1 Q2 Q3 : FVec Ideal S1x128x128 .bf16)
    (B0 B1 : FVec Ideal S1x128x512 .f32) (s : FVec Ideal S1x1x512 .f32) (r d : Fin 128) :
    head1 (core hp K0 K1 V0 V1 Q0 Q1 Q2 Q3 B0 B1 s) (ix3 0 r d)
    = mix (before hp (fun j e => K0 (ix3 0 j e)) (fun e => Q1 (ix3 0 r e)) fun j => B0 (ix3 0 j ⟨128 + r, by omega⟩))
        (own (fun j e => K1 (ix3 0 j e)) (fun e => Q1 (ix3 0 r e)) fun j => B1 (ix3 0 j ⟨128 + r, by omega⟩))
        (fun j => V0 (ix3 0 j d)) (fun j => V1 (ix3 0 j d)) (s (ix3 0 0 ⟨128 + r, by omega⟩) * l2e) := by
  pointwise [head1, core, left, k0_pay126, k0_pay53, k0_pay54, k0_pay55, k0_pay51, k0_pay52, k0_pay50, k0_pay49, k0_pay48, k0_pay47,
    k0_pay23, k0_pay24, row1_at, mix, before, own, val_at, val_at']
  rfl

theorem row2_at (Q0 Q1 Q2 Q3 : FVec Ideal S1x128x128 .bf16) (r e : Fin 128) :
    k0_pay22 (F := Ideal) Q0 Q1 Q2 Q3 (ix2 ⟨256 + r, by omega⟩ e) = Q2 (ix3 0 r e) := by
  pointwise [k0_pay22]
  rw [dif_neg (by omega), dif_neg (by omega)]
  rw [dif_pos (by omega)]
  congr 2
  exact Fin.ext (by simp only; omega)

theorem head2_at (hp : BitVec 1) (K0 K1 V0 V1 Q0 Q1 Q2 Q3 : FVec Ideal S1x128x128 .bf16)
    (B0 B1 : FVec Ideal S1x128x512 .f32) (s : FVec Ideal S1x1x512 .f32) (r d : Fin 128) :
    head2 (core hp K0 K1 V0 V1 Q0 Q1 Q2 Q3 B0 B1 s) (ix3 0 r d)
    = mix (before hp (fun j e => K0 (ix3 0 j e)) (fun e => Q2 (ix3 0 r e)) fun j => B0 (ix3 0 j ⟨256 + r, by omega⟩))
        (own (fun j e => K1 (ix3 0 j e)) (fun e => Q2 (ix3 0 r e)) fun j => B1 (ix3 0 j ⟨256 + r, by omega⟩))
        (fun j => V0 (ix3 0 j d)) (fun j => V1 (ix3 0 j d)) (s (ix3 0 0 ⟨256 + r, by omega⟩) * l2e) := by
  pointwise [head2, core, left, k0_pay126, k0_pay53, k0_pay54, k0_pay55, k0_pay51, k0_pay52, k0_pay50, k0_pay49, k0_pay48, k0_pay47,
    k0_pay23, k0_pay24, row2_at, mix, before, own, val_at, val_at']
  rfl

theorem row3_at (Q0 Q1 Q2 Q3 : FVec Ideal S1x128x128 .bf16) (r e : Fin 128) :
    k0_pay22 (F := Ideal) Q0 Q1 Q2 Q3 (ix2 ⟨384 + r, by omega⟩ e) = Q3 (ix3 0 r e) := by
  pointwise [k0_pay22]
  rw [dif_neg (by omega), dif_neg (by omega)]
  rw [dif_neg (by omega)]
  congr 2
  exact Fin.ext (by simp only; omega)

theorem head3_at (hp : BitVec 1) (K0 K1 V0 V1 Q0 Q1 Q2 Q3 : FVec Ideal S1x128x128 .bf16)
    (B0 B1 : FVec Ideal S1x128x512 .f32) (s : FVec Ideal S1x1x512 .f32) (r d : Fin 128) :
    head3 (core hp K0 K1 V0 V1 Q0 Q1 Q2 Q3 B0 B1 s) (ix3 0 r d)
    = mix (before hp (fun j e => K0 (ix3 0 j e)) (fun e => Q3 (ix3 0 r e)) fun j => B0 (ix3 0 j ⟨384 + r, by omega⟩))
        (own (fun j e => K1 (ix3 0 j e)) (fun e => Q3 (ix3 0 r e)) fun j => B1 (ix3 0 j ⟨384 + r, by omega⟩))
        (fun j => V0 (ix3 0 j d)) (fun j => V1 (ix3 0 j d)) (s (ix3 0 0 ⟨384 + r, by omega⟩) * l2e) := by
  pointwise [head3, core, left, k0_pay126, k0_pay53, k0_pay54, k0_pay55, k0_pay51, k0_pay52, k0_pay50, k0_pay49, k0_pay48, k0_pay47,
    k0_pay23, k0_pay24, row3_at, mix, before, own, val_at, val_at']
  rfl

end Cert.Band

end
-- ==== Proof.SwaBlock.lean ====
/- The windowed attention's block: the result block of one grid step, element by element, from the blocks it reads. -/
module

public import proofs.«01_k».proof.Proof.Band

@[expose] public section

set_option maxRecDepth 16384

noncomputable section

open Idealize.ShloMosaic Idealize.ShloMosaic.TcCoe Idealize.SL.Sem
open Idealize.ShloMosaic.Pipeline (Dat)

namespace Cert.Swa
open Cert.KernelIdeal Cert.KernelIdeal.Gen Cert.Band

/-- Whether the block before a tile's first block exists, and before its second. -/
def bit (i : grid0.Coords) (b : BitVec 1) : BitVec 1 := Scalar.ori (Scalar.cmpi .sgt (BitVec.ofNat 32 (i 1).val) 0#32) b

/-- Group 0 of a tile's first block. -/
def g00 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32) : FVec Ideal S128x512 .f32 :=
  core (bit i 0#1) (View.ld x1 r0_16) (View.ld x2 r0_17) (View.ld x1 r0_0) (View.ld x2 r0_4)
    (View.ld x0 r0_12) (View.ld x0 r0_13) (View.ld x0 r0_14) (View.ld x0 r0_15) (View.ld x3 r0_56) (View.ld x3 r0_57) (View.ld x4 r0_58)

/-- Group 1 of a tile's first block. -/
def g01 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32) : FVec Ideal S128x512 .f32 :=
  core (bit i 0#1) (View.ld x1 r0_22) (View.ld x2 r0_23) (View.ld x1 r0_1) (View.ld x2 r0_5)
    (View.ld x0 r0_18) (View.ld x0 r0_19) (View.ld x0 r0_20) (View.ld x0 r0_21) (View.ld x3 r0_59) (View.ld x3 r0_60) (View.ld x4 r0_61)

/-- Group 2 of a tile's first block. -/
def g02 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32) : FVec Ideal S128x512 .f32 :=
  core (bit i 0#1) (View.ld x1 r0_28) (View.ld x2 r0_29) (View.ld x1 r0_2) (View.ld x2 r0_6)
    (View.ld x0 r0_24) (View.ld x0 r0_25) (View.ld x0 r0_26) (View.ld x0 r0_27) (View.ld x3 r0_62) (View.ld x3 r0_63) (View.ld x4 r0_64)

/-- Group 3 of a tile's first block. -/
def g03 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32) : FVec Ideal S128x512 .f32 :=
  core (bit i 0#1) (View.ld x1 r0_34) (View.ld x2 r0_35) (View.ld x1 r0_3) (View.ld x2 r0_7)
    (View.ld x0 r0_30) (View.ld x0 r0_31) (View.ld x0 r0_32) (View.ld x0 r0_33) (View.ld x3 r0_65) (View.ld x3 r0_66) (View.ld x4 r0_67)

/-- Group 0 of a tile's second block. -/
def g10 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32) : FVec Ideal S128x512 .f32 :=
  core (bit i 1#1) (View.ld x2 r0_17) (View.ld x2 r0_40) (View.ld x2 r0_4) (View.ld x2 r0_8)
    (View.ld x0 r0_36) (View.ld x0 r0_37) (View.ld x0 r0_38) (View.ld x0 r0_39) (View.ld x3 r0_56) (View.ld x3 r0_57) (View.ld x4 r0_58)

/-- Group 1 of a tile's second block. -/
def g11 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32) : FVec Ideal S128x512 .f32 :=
  core (bit i 1#1) (View.ld x2 r0_23) (View.ld x2 r0_45) (View.ld x2 r0_5) (View.ld x2 r0_9)
    (View.ld x0 r0_41) (View.ld x0 r0_42) (View.ld x0 r0_43) (View.ld x0 r0_44) (View.ld x3 r0_59) (View.ld x3 r0_60) (View.ld x4 r0_61)

/-- Group 2 of a tile's second block. -/
def g12 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32) : FVec Ideal S128x512 .f32 :=
  core (bit i 1#1) (View.ld x2 r0_29) (View.ld x2 r0_50) (View.ld x2 r0_6) (View.ld x2 r0_10)
    (View.ld x0 r0_46) (View.ld x0 r0_47) (View.ld x0 r0_48) (View.ld x0 r0_49) (View.ld x3 r0_62) (View.ld x3 r0_63) (View.ld x4 r0_64)

/-- Group 3 of a tile's second block. -/
def g13 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32) : FVec Ideal S128x512 .f32 :=
  core (bit i 1#1) (View.ld x2 r0_35) (View.ld x2 r0_55) (View.ld x2 r0_7) (View.ld x2 r0_11)
    (View.ld x0 r0_51) (View.ld x0 r0_52) (View.ld x0 r0_53) (View.ld x0 r0_54) (View.ld x3 r0_65) (View.ld x3 r0_66) (View.ld x4 r0_67)

set_option maxHeartbeats 1000000 in
/-- The block's stores, as heads of those groups. -/
theorem out_eq (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32) : out0_5 i x0 x1 x2 x3 x4 = View.canon [
    ⟨r0_54, head3 (g13 i x0 x1 x2 x3 x4)⟩,
    ⟨r0_53, head2 (g13 i x0 x1 x2 x3 x4)⟩,
    ⟨r0_52, head1 (g13 i x0 x1 x2 x3 x4)⟩,
    ⟨r0_51, head0 (g13 i x0 x1 x2 x3 x4)⟩,
    ⟨r0_49, head3 (g12 i x0 x1 x2 x3 x4)⟩,
    ⟨r0_48, head2 (g12 i x0 x1 x2 x3 x4)⟩,
    ⟨r0_47, head1 (g12 i x0 x1 x2 x3 x4)⟩,
    ⟨r0_46, head0 (g12 i x0 x1 x2 x3 x4)⟩,
    ⟨r0_44, head3 (g11 i x0 x1 x2 x3 x4)⟩,
    ⟨r0_43, head2 (g11 i x0 x1 x2 x3 x4)⟩,
    ⟨r0_42, head1 (g11 i x0 x1 x2 x3 x4)⟩,
    ⟨r0_41, head0 (g11 i x0 x1 x2 x3 x4)⟩,
    ⟨r0_39, head3 (g10 i x0 x1 x2 x3 x4)⟩,
    ⟨r0_38, head2 (g10 i x0 x1 x2 x3 x4)⟩,
    ⟨r0_37, head1 (g10 i x0 x1 x2 x3 x4)⟩,
    ⟨r0_36, head0 (g10 i x0 x1 x2 x3 x4)⟩,
    ⟨r0_33, head3 (g03 i x0 x1 x2 x3 x4)⟩,
    ⟨r0_32, head2 (g03 i x0 x1 x2 x3 x4)⟩,
    ⟨r0_31, head1 (g03 i x0 x1 x2 x3 x4)⟩,
    ⟨r0_30, head0 (g03 i x0 x1 x2 x3 x4)⟩,
    ⟨r0_27, head3 (g02 i x0 x1 x2 x3 x4)⟩,
    ⟨r0_26, head2 (g02 i x0 x1 x2 x3 x4)⟩,
    ⟨r0_25, head1 (g02 i x0 x1 x2 x3 x4)⟩,
    ⟨r0_24, head0 (g02 i x0 x1 x2 x3 x4)⟩,
    ⟨r0_21, head3 (g01 i x0 x1 x2 x3 x4)⟩,
    ⟨r0_20, head2 (g01 i x0 x1 x2 x3 x4)⟩,
    ⟨r0_19, head1 (g01 i x0 x1 x2 x3 x4)⟩,
    ⟨r0_18, head0 (g01 i x0 x1 x2 x3 x4)⟩,
    ⟨r0_15, head3 (g00 i x0 x1 x2 x3 x4)⟩,
    ⟨r0_14, head2 (g00 i x0 x1 x2 x3 x4)⟩,
    ⟨r0_13, head1 (g00 i x0 x1 x2 x3 x4)⟩,
    ⟨r0_12, head0 (g00 i x0 x1 x2 x3 x4)⟩] := rfl

/-- The keys before a tile's row `s`, at column `c`: the block read apart, or the tile's first. -/
def prevRow (x1 : Vec Ideal S1x128x1024 .bf16) (x2 : Vec Ideal S1x256x1024 .bf16) (s : Fin 256) (j : Fin 128) (c : Fin 1024) : EReal :=
  if s.val < 128 then x1 (ix3 0 j c) else x2 (ix3 0 ⟨j, by omega⟩ c)

/-- The keys of row `s`'s own block, at column `c`. -/
def ownRow (x2 : Vec Ideal S1x256x1024 .bf16) (s : Fin 256) (j : Fin 128) (c : Fin 1024) : EReal :=
  x2 (ix3 0 ⟨128 * (s.val / 128) + j, by omega⟩ c)

/-- One element of the result block. -/
def blk (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) : EReal :=
  mix (before (bit i (if s.val < 128 then 0#1 else 1#1))
      (fun j e => prevRow x1 x2 s j ⟨128 * (c.val / 512) + e, by omega⟩)
      (fun e => x0 (ix3 0 s ⟨128 * (c.val / 128) + e, by omega⟩))
      fun j => x3 (ix3 ⟨c.val / 512, by omega⟩ ⟨j, by omega⟩ ⟨128 * (c.val / 128 % 4) + s.val % 128, by omega⟩))
    (own (fun j e => ownRow x2 s j ⟨128 * (c.val / 512) + e, by omega⟩)
      (fun e => x0 (ix3 0 s ⟨128 * (c.val / 128) + e, by omega⟩))
      fun j => x3 (ix3 ⟨c.val / 512, by omega⟩ ⟨128 + j, by omega⟩ ⟨128 * (c.val / 128 % 4) + s.val % 128, by omega⟩))
    (fun j => prevRow x1 x2 s j ⟨512 + 128 * (c.val / 512) + c.val % 128, by omega⟩)
    (fun j => ownRow x2 s j ⟨512 + 128 * (c.val / 512) + c.val % 128, by omega⟩)
    (x4 (ix3 ⟨c.val / 512, by omega⟩ 0 ⟨128 * (c.val / 128 % 4) + s.val % 128, by omega⟩) * l2e)

theorem mix_congr {hp hp' : BitVec 1} {k k' l l' : Fin 128 → Fin 128 → EReal} {q q' b b' a a' v v' w w' : Fin 128 → EReal}
    {s s' : EReal} (h : hp = hp') (hk : ∀ j e, k j e = k' j e) (hl : ∀ j e, l j e = l' j e) (hq : ∀ e, q e = q' e)
    (hb : ∀ j, b j = b' j) (ha : ∀ j, a j = a' j) (hv : ∀ j, v j = v' j) (hw : ∀ j, w j = w' j) (hs : s = s') :
    mix (before hp k q b) (own l q a) v w s = mix (before hp' k' q' b') (own l' q' a') v' w' s' := by
  obtain rfl : k = k' := funext fun j => funext (hk j)
  obtain rfl : l = l' := funext fun j => funext (hl j)
  obtain rfl : q = q' := funext hq
  obtain rfl : b = b' := funext hb
  obtain rfl : a = a' := funext ha
  obtain rfl : v = v' := funext hv
  obtain rfl : w = w' := funext hw
  subst h hs
  rfl

theorem piece133 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = 128 + r.val) (e2 : c.val = 1920 + d.val) :
    head3 (g13 i x0 x1 x2 x3 x4) (ix3 0 r d) = blk i x0 x1 x2 x3 x4 s c := by
  refine (head3_at _ _ _ _ _ _ _ _ _ _ _ _ r d).trans (mix_congr ?_ ?_ ?_ ?_ ?_ ?_ ?_ ?_ ?_)
  · rw [if_neg (by omega)]
  · intro j e; rw [prevRow, if_neg (by omega)]; pointwise [r0_35]; blk_point []
  · intro j e; rw [ownRow]; pointwise [r0_55]; blk_point []
  · intro e; pointwise [r0_54]; blk_point []
  · intro j; pointwise [r0_65]; blk_point []
  · intro j; pointwise [r0_66]; blk_point []
  · intro j; rw [prevRow, if_neg (by omega)]; pointwise [r0_7]; blk_point []
  · intro j; rw [ownRow]; pointwise [r0_11]; blk_point []
  · pointwise [r0_67]; blk_point []

theorem piece132 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = 128 + r.val) (e2 : c.val = 1792 + d.val) :
    head2 (g13 i x0 x1 x2 x3 x4) (ix3 0 r d) = blk i x0 x1 x2 x3 x4 s c := by
  refine (head2_at _ _ _ _ _ _ _ _ _ _ _ _ r d).trans (mix_congr ?_ ?_ ?_ ?_ ?_ ?_ ?_ ?_ ?_)
  · rw [if_neg (by omega)]
  · intro j e; rw [prevRow, if_neg (by omega)]; pointwise [r0_35]; blk_point []
  · intro j e; rw [ownRow]; pointwise [r0_55]; blk_point []
  · intro e; pointwise [r0_53]; blk_point []
  · intro j; pointwise [r0_65]; blk_point []
  · intro j; pointwise [r0_66]; blk_point []
  · intro j; rw [prevRow, if_neg (by omega)]; pointwise [r0_7]; blk_point []
  · intro j; rw [ownRow]; pointwise [r0_11]; blk_point []
  · pointwise [r0_67]; blk_point []

theorem piece131 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = 128 + r.val) (e2 : c.val = 1664 + d.val) :
    head1 (g13 i x0 x1 x2 x3 x4) (ix3 0 r d) = blk i x0 x1 x2 x3 x4 s c := by
  refine (head1_at _ _ _ _ _ _ _ _ _ _ _ _ r d).trans (mix_congr ?_ ?_ ?_ ?_ ?_ ?_ ?_ ?_ ?_)
  · rw [if_neg (by omega)]
  · intro j e; rw [prevRow, if_neg (by omega)]; pointwise [r0_35]; blk_point []
  · intro j e; rw [ownRow]; pointwise [r0_55]; blk_point []
  · intro e; pointwise [r0_52]; blk_point []
  · intro j; pointwise [r0_65]; blk_point []
  · intro j; pointwise [r0_66]; blk_point []
  · intro j; rw [prevRow, if_neg (by omega)]; pointwise [r0_7]; blk_point []
  · intro j; rw [ownRow]; pointwise [r0_11]; blk_point []
  · pointwise [r0_67]; blk_point []

theorem piece130 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = 128 + r.val) (e2 : c.val = 1536 + d.val) :
    head0 (g13 i x0 x1 x2 x3 x4) (ix3 0 r d) = blk i x0 x1 x2 x3 x4 s c := by
  refine (head0_at _ _ _ _ _ _ _ _ _ _ _ _ r d).trans (mix_congr ?_ ?_ ?_ ?_ ?_ ?_ ?_ ?_ ?_)
  · rw [if_neg (by omega)]
  · intro j e; rw [prevRow, if_neg (by omega)]; pointwise [r0_35]; blk_point []
  · intro j e; rw [ownRow]; pointwise [r0_55]; blk_point []
  · intro e; pointwise [r0_51]; blk_point []
  · intro j; pointwise [r0_65]; blk_point []
  · intro j; pointwise [r0_66]; blk_point []
  · intro j; rw [prevRow, if_neg (by omega)]; pointwise [r0_7]; blk_point []
  · intro j; rw [ownRow]; pointwise [r0_11]; blk_point []
  · pointwise [r0_67]; blk_point []

theorem piece123 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = 128 + r.val) (e2 : c.val = 1408 + d.val) :
    head3 (g12 i x0 x1 x2 x3 x4) (ix3 0 r d) = blk i x0 x1 x2 x3 x4 s c := by
  refine (head3_at _ _ _ _ _ _ _ _ _ _ _ _ r d).trans (mix_congr ?_ ?_ ?_ ?_ ?_ ?_ ?_ ?_ ?_)
  · rw [if_neg (by omega)]
  · intro j e; rw [prevRow, if_neg (by omega)]; pointwise [r0_29]; blk_point []
  · intro j e; rw [ownRow]; pointwise [r0_50]; blk_point []
  · intro e; pointwise [r0_49]; blk_point []
  · intro j; pointwise [r0_62]; blk_point []
  · intro j; pointwise [r0_63]; blk_point []
  · intro j; rw [prevRow, if_neg (by omega)]; pointwise [r0_6]; blk_point []
  · intro j; rw [ownRow]; pointwise [r0_10]; blk_point []
  · pointwise [r0_64]; blk_point []

theorem piece122 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = 128 + r.val) (e2 : c.val = 1280 + d.val) :
    head2 (g12 i x0 x1 x2 x3 x4) (ix3 0 r d) = blk i x0 x1 x2 x3 x4 s c := by
  refine (head2_at _ _ _ _ _ _ _ _ _ _ _ _ r d).trans (mix_congr ?_ ?_ ?_ ?_ ?_ ?_ ?_ ?_ ?_)
  · rw [if_neg (by omega)]
  · intro j e; rw [prevRow, if_neg (by omega)]; pointwise [r0_29]; blk_point []
  · intro j e; rw [ownRow]; pointwise [r0_50]; blk_point []
  · intro e; pointwise [r0_48]; blk_point []
  · intro j; pointwise [r0_62]; blk_point []
  · intro j; pointwise [r0_63]; blk_point []
  · intro j; rw [prevRow, if_neg (by omega)]; pointwise [r0_6]; blk_point []
  · intro j; rw [ownRow]; pointwise [r0_10]; blk_point []
  · pointwise [r0_64]; blk_point []

theorem piece121 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = 128 + r.val) (e2 : c.val = 1152 + d.val) :
    head1 (g12 i x0 x1 x2 x3 x4) (ix3 0 r d) = blk i x0 x1 x2 x3 x4 s c := by
  refine (head1_at _ _ _ _ _ _ _ _ _ _ _ _ r d).trans (mix_congr ?_ ?_ ?_ ?_ ?_ ?_ ?_ ?_ ?_)
  · rw [if_neg (by omega)]
  · intro j e; rw [prevRow, if_neg (by omega)]; pointwise [r0_29]; blk_point []
  · intro j e; rw [ownRow]; pointwise [r0_50]; blk_point []
  · intro e; pointwise [r0_47]; blk_point []
  · intro j; pointwise [r0_62]; blk_point []
  · intro j; pointwise [r0_63]; blk_point []
  · intro j; rw [prevRow, if_neg (by omega)]; pointwise [r0_6]; blk_point []
  · intro j; rw [ownRow]; pointwise [r0_10]; blk_point []
  · pointwise [r0_64]; blk_point []

theorem piece120 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = 128 + r.val) (e2 : c.val = 1024 + d.val) :
    head0 (g12 i x0 x1 x2 x3 x4) (ix3 0 r d) = blk i x0 x1 x2 x3 x4 s c := by
  refine (head0_at _ _ _ _ _ _ _ _ _ _ _ _ r d).trans (mix_congr ?_ ?_ ?_ ?_ ?_ ?_ ?_ ?_ ?_)
  · rw [if_neg (by omega)]
  · intro j e; rw [prevRow, if_neg (by omega)]; pointwise [r0_29]; blk_point []
  · intro j e; rw [ownRow]; pointwise [r0_50]; blk_point []
  · intro e; pointwise [r0_46]; blk_point []
  · intro j; pointwise [r0_62]; blk_point []
  · intro j; pointwise [r0_63]; blk_point []
  · intro j; rw [prevRow, if_neg (by omega)]; pointwise [r0_6]; blk_point []
  · intro j; rw [ownRow]; pointwise [r0_10]; blk_point []
  · pointwise [r0_64]; blk_point []

theorem piece113 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = 128 + r.val) (e2 : c.val = 896 + d.val) :
    head3 (g11 i x0 x1 x2 x3 x4) (ix3 0 r d) = blk i x0 x1 x2 x3 x4 s c := by
  refine (head3_at _ _ _ _ _ _ _ _ _ _ _ _ r d).trans (mix_congr ?_ ?_ ?_ ?_ ?_ ?_ ?_ ?_ ?_)
  · rw [if_neg (by omega)]
  · intro j e; rw [prevRow, if_neg (by omega)]; pointwise [r0_23]; blk_point []
  · intro j e; rw [ownRow]; pointwise [r0_45]; blk_point []
  · intro e; pointwise [r0_44]; blk_point []
  · intro j; pointwise [r0_59]; blk_point []
  · intro j; pointwise [r0_60]; blk_point []
  · intro j; rw [prevRow, if_neg (by omega)]; pointwise [r0_5]; blk_point []
  · intro j; rw [ownRow]; pointwise [r0_9]; blk_point []
  · pointwise [r0_61]; blk_point []

theorem piece112 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = 128 + r.val) (e2 : c.val = 768 + d.val) :
    head2 (g11 i x0 x1 x2 x3 x4) (ix3 0 r d) = blk i x0 x1 x2 x3 x4 s c := by
  refine (head2_at _ _ _ _ _ _ _ _ _ _ _ _ r d).trans (mix_congr ?_ ?_ ?_ ?_ ?_ ?_ ?_ ?_ ?_)
  · rw [if_neg (by omega)]
  · intro j e; rw [prevRow, if_neg (by omega)]; pointwise [r0_23]; blk_point []
  · intro j e; rw [ownRow]; pointwise [r0_45]; blk_point []
  · intro e; pointwise [r0_43]; blk_point []
  · intro j; pointwise [r0_59]; blk_point []
  · intro j; pointwise [r0_60]; blk_point []
  · intro j; rw [prevRow, if_neg (by omega)]; pointwise [r0_5]; blk_point []
  · intro j; rw [ownRow]; pointwise [r0_9]; blk_point []
  · pointwise [r0_61]; blk_point []

theorem piece111 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = 128 + r.val) (e2 : c.val = 640 + d.val) :
    head1 (g11 i x0 x1 x2 x3 x4) (ix3 0 r d) = blk i x0 x1 x2 x3 x4 s c := by
  refine (head1_at _ _ _ _ _ _ _ _ _ _ _ _ r d).trans (mix_congr ?_ ?_ ?_ ?_ ?_ ?_ ?_ ?_ ?_)
  · rw [if_neg (by omega)]
  · intro j e; rw [prevRow, if_neg (by omega)]; pointwise [r0_23]; blk_point []
  · intro j e; rw [ownRow]; pointwise [r0_45]; blk_point []
  · intro e; pointwise [r0_42]; blk_point []
  · intro j; pointwise [r0_59]; blk_point []
  · intro j; pointwise [r0_60]; blk_point []
  · intro j; rw [prevRow, if_neg (by omega)]; pointwise [r0_5]; blk_point []
  · intro j; rw [ownRow]; pointwise [r0_9]; blk_point []
  · pointwise [r0_61]; blk_point []

theorem piece110 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = 128 + r.val) (e2 : c.val = 512 + d.val) :
    head0 (g11 i x0 x1 x2 x3 x4) (ix3 0 r d) = blk i x0 x1 x2 x3 x4 s c := by
  refine (head0_at _ _ _ _ _ _ _ _ _ _ _ _ r d).trans (mix_congr ?_ ?_ ?_ ?_ ?_ ?_ ?_ ?_ ?_)
  · rw [if_neg (by omega)]
  · intro j e; rw [prevRow, if_neg (by omega)]; pointwise [r0_23]; blk_point []
  · intro j e; rw [ownRow]; pointwise [r0_45]; blk_point []
  · intro e; pointwise [r0_41]; blk_point []
  · intro j; pointwise [r0_59]; blk_point []
  · intro j; pointwise [r0_60]; blk_point []
  · intro j; rw [prevRow, if_neg (by omega)]; pointwise [r0_5]; blk_point []
  · intro j; rw [ownRow]; pointwise [r0_9]; blk_point []
  · pointwise [r0_61]; blk_point []

theorem piece103 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = 128 + r.val) (e2 : c.val = 384 + d.val) :
    head3 (g10 i x0 x1 x2 x3 x4) (ix3 0 r d) = blk i x0 x1 x2 x3 x4 s c := by
  refine (head3_at _ _ _ _ _ _ _ _ _ _ _ _ r d).trans (mix_congr ?_ ?_ ?_ ?_ ?_ ?_ ?_ ?_ ?_)
  · rw [if_neg (by omega)]
  · intro j e; rw [prevRow, if_neg (by omega)]; pointwise [r0_17]; blk_point []
  · intro j e; rw [ownRow]; pointwise [r0_40]; blk_point []
  · intro e; pointwise [r0_39]; blk_point []
  · intro j; pointwise [r0_56]; blk_point []
  · intro j; pointwise [r0_57]; blk_point []
  · intro j; rw [prevRow, if_neg (by omega)]; pointwise [r0_4]; blk_point []
  · intro j; rw [ownRow]; pointwise [r0_8]; blk_point []
  · pointwise [r0_58]; blk_point []

theorem piece102 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = 128 + r.val) (e2 : c.val = 256 + d.val) :
    head2 (g10 i x0 x1 x2 x3 x4) (ix3 0 r d) = blk i x0 x1 x2 x3 x4 s c := by
  refine (head2_at _ _ _ _ _ _ _ _ _ _ _ _ r d).trans (mix_congr ?_ ?_ ?_ ?_ ?_ ?_ ?_ ?_ ?_)
  · rw [if_neg (by omega)]
  · intro j e; rw [prevRow, if_neg (by omega)]; pointwise [r0_17]; blk_point []
  · intro j e; rw [ownRow]; pointwise [r0_40]; blk_point []
  · intro e; pointwise [r0_38]; blk_point []
  · intro j; pointwise [r0_56]; blk_point []
  · intro j; pointwise [r0_57]; blk_point []
  · intro j; rw [prevRow, if_neg (by omega)]; pointwise [r0_4]; blk_point []
  · intro j; rw [ownRow]; pointwise [r0_8]; blk_point []
  · pointwise [r0_58]; blk_point []

theorem piece101 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = 128 + r.val) (e2 : c.val = 128 + d.val) :
    head1 (g10 i x0 x1 x2 x3 x4) (ix3 0 r d) = blk i x0 x1 x2 x3 x4 s c := by
  refine (head1_at _ _ _ _ _ _ _ _ _ _ _ _ r d).trans (mix_congr ?_ ?_ ?_ ?_ ?_ ?_ ?_ ?_ ?_)
  · rw [if_neg (by omega)]
  · intro j e; rw [prevRow, if_neg (by omega)]; pointwise [r0_17]; blk_point []
  · intro j e; rw [ownRow]; pointwise [r0_40]; blk_point []
  · intro e; pointwise [r0_37]; blk_point []
  · intro j; pointwise [r0_56]; blk_point []
  · intro j; pointwise [r0_57]; blk_point []
  · intro j; rw [prevRow, if_neg (by omega)]; pointwise [r0_4]; blk_point []
  · intro j; rw [ownRow]; pointwise [r0_8]; blk_point []
  · pointwise [r0_58]; blk_point []

theorem piece100 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = 128 + r.val) (e2 : c.val = d.val) :
    head0 (g10 i x0 x1 x2 x3 x4) (ix3 0 r d) = blk i x0 x1 x2 x3 x4 s c := by
  refine (head0_at _ _ _ _ _ _ _ _ _ _ _ _ r d).trans (mix_congr ?_ ?_ ?_ ?_ ?_ ?_ ?_ ?_ ?_)
  · rw [if_neg (by omega)]
  · intro j e; rw [prevRow, if_neg (by omega)]; pointwise [r0_17]; blk_point []
  · intro j e; rw [ownRow]; pointwise [r0_40]; blk_point []
  · intro e; pointwise [r0_36]; blk_point []
  · intro j; pointwise [r0_56]; blk_point []
  · intro j; pointwise [r0_57]; blk_point []
  · intro j; rw [prevRow, if_neg (by omega)]; pointwise [r0_4]; blk_point []
  · intro j; rw [ownRow]; pointwise [r0_8]; blk_point []
  · pointwise [r0_58]; blk_point []

theorem piece033 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = r.val) (e2 : c.val = 1920 + d.val) :
    head3 (g03 i x0 x1 x2 x3 x4) (ix3 0 r d) = blk i x0 x1 x2 x3 x4 s c := by
  refine (head3_at _ _ _ _ _ _ _ _ _ _ _ _ r d).trans (mix_congr ?_ ?_ ?_ ?_ ?_ ?_ ?_ ?_ ?_)
  · rw [if_pos (by omega)]
  · intro j e; rw [prevRow, if_pos (by omega)]; pointwise [r0_34]; blk_point []
  · intro j e; rw [ownRow]; pointwise [r0_35]; blk_point []
  · intro e; pointwise [r0_33]; blk_point []
  · intro j; pointwise [r0_65]; blk_point []
  · intro j; pointwise [r0_66]; blk_point []
  · intro j; rw [prevRow, if_pos (by omega)]; pointwise [r0_3]; blk_point []
  · intro j; rw [ownRow]; pointwise [r0_7]; blk_point []
  · pointwise [r0_67]; blk_point []

theorem piece032 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = r.val) (e2 : c.val = 1792 + d.val) :
    head2 (g03 i x0 x1 x2 x3 x4) (ix3 0 r d) = blk i x0 x1 x2 x3 x4 s c := by
  refine (head2_at _ _ _ _ _ _ _ _ _ _ _ _ r d).trans (mix_congr ?_ ?_ ?_ ?_ ?_ ?_ ?_ ?_ ?_)
  · rw [if_pos (by omega)]
  · intro j e; rw [prevRow, if_pos (by omega)]; pointwise [r0_34]; blk_point []
  · intro j e; rw [ownRow]; pointwise [r0_35]; blk_point []
  · intro e; pointwise [r0_32]; blk_point []
  · intro j; pointwise [r0_65]; blk_point []
  · intro j; pointwise [r0_66]; blk_point []
  · intro j; rw [prevRow, if_pos (by omega)]; pointwise [r0_3]; blk_point []
  · intro j; rw [ownRow]; pointwise [r0_7]; blk_point []
  · pointwise [r0_67]; blk_point []

theorem piece031 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = r.val) (e2 : c.val = 1664 + d.val) :
    head1 (g03 i x0 x1 x2 x3 x4) (ix3 0 r d) = blk i x0 x1 x2 x3 x4 s c := by
  refine (head1_at _ _ _ _ _ _ _ _ _ _ _ _ r d).trans (mix_congr ?_ ?_ ?_ ?_ ?_ ?_ ?_ ?_ ?_)
  · rw [if_pos (by omega)]
  · intro j e; rw [prevRow, if_pos (by omega)]; pointwise [r0_34]; blk_point []
  · intro j e; rw [ownRow]; pointwise [r0_35]; blk_point []
  · intro e; pointwise [r0_31]; blk_point []
  · intro j; pointwise [r0_65]; blk_point []
  · intro j; pointwise [r0_66]; blk_point []
  · intro j; rw [prevRow, if_pos (by omega)]; pointwise [r0_3]; blk_point []
  · intro j; rw [ownRow]; pointwise [r0_7]; blk_point []
  · pointwise [r0_67]; blk_point []

theorem piece030 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = r.val) (e2 : c.val = 1536 + d.val) :
    head0 (g03 i x0 x1 x2 x3 x4) (ix3 0 r d) = blk i x0 x1 x2 x3 x4 s c := by
  refine (head0_at _ _ _ _ _ _ _ _ _ _ _ _ r d).trans (mix_congr ?_ ?_ ?_ ?_ ?_ ?_ ?_ ?_ ?_)
  · rw [if_pos (by omega)]
  · intro j e; rw [prevRow, if_pos (by omega)]; pointwise [r0_34]; blk_point []
  · intro j e; rw [ownRow]; pointwise [r0_35]; blk_point []
  · intro e; pointwise [r0_30]; blk_point []
  · intro j; pointwise [r0_65]; blk_point []
  · intro j; pointwise [r0_66]; blk_point []
  · intro j; rw [prevRow, if_pos (by omega)]; pointwise [r0_3]; blk_point []
  · intro j; rw [ownRow]; pointwise [r0_7]; blk_point []
  · pointwise [r0_67]; blk_point []

theorem piece023 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = r.val) (e2 : c.val = 1408 + d.val) :
    head3 (g02 i x0 x1 x2 x3 x4) (ix3 0 r d) = blk i x0 x1 x2 x3 x4 s c := by
  refine (head3_at _ _ _ _ _ _ _ _ _ _ _ _ r d).trans (mix_congr ?_ ?_ ?_ ?_ ?_ ?_ ?_ ?_ ?_)
  · rw [if_pos (by omega)]
  · intro j e; rw [prevRow, if_pos (by omega)]; pointwise [r0_28]; blk_point []
  · intro j e; rw [ownRow]; pointwise [r0_29]; blk_point []
  · intro e; pointwise [r0_27]; blk_point []
  · intro j; pointwise [r0_62]; blk_point []
  · intro j; pointwise [r0_63]; blk_point []
  · intro j; rw [prevRow, if_pos (by omega)]; pointwise [r0_2]; blk_point []
  · intro j; rw [ownRow]; pointwise [r0_6]; blk_point []
  · pointwise [r0_64]; blk_point []

theorem piece022 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = r.val) (e2 : c.val = 1280 + d.val) :
    head2 (g02 i x0 x1 x2 x3 x4) (ix3 0 r d) = blk i x0 x1 x2 x3 x4 s c := by
  refine (head2_at _ _ _ _ _ _ _ _ _ _ _ _ r d).trans (mix_congr ?_ ?_ ?_ ?_ ?_ ?_ ?_ ?_ ?_)
  · rw [if_pos (by omega)]
  · intro j e; rw [prevRow, if_pos (by omega)]; pointwise [r0_28]; blk_point []
  · intro j e; rw [ownRow]; pointwise [r0_29]; blk_point []
  · intro e; pointwise [r0_26]; blk_point []
  · intro j; pointwise [r0_62]; blk_point []
  · intro j; pointwise [r0_63]; blk_point []
  · intro j; rw [prevRow, if_pos (by omega)]; pointwise [r0_2]; blk_point []
  · intro j; rw [ownRow]; pointwise [r0_6]; blk_point []
  · pointwise [r0_64]; blk_point []

theorem piece021 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = r.val) (e2 : c.val = 1152 + d.val) :
    head1 (g02 i x0 x1 x2 x3 x4) (ix3 0 r d) = blk i x0 x1 x2 x3 x4 s c := by
  refine (head1_at _ _ _ _ _ _ _ _ _ _ _ _ r d).trans (mix_congr ?_ ?_ ?_ ?_ ?_ ?_ ?_ ?_ ?_)
  · rw [if_pos (by omega)]
  · intro j e; rw [prevRow, if_pos (by omega)]; pointwise [r0_28]; blk_point []
  · intro j e; rw [ownRow]; pointwise [r0_29]; blk_point []
  · intro e; pointwise [r0_25]; blk_point []
  · intro j; pointwise [r0_62]; blk_point []
  · intro j; pointwise [r0_63]; blk_point []
  · intro j; rw [prevRow, if_pos (by omega)]; pointwise [r0_2]; blk_point []
  · intro j; rw [ownRow]; pointwise [r0_6]; blk_point []
  · pointwise [r0_64]; blk_point []

theorem piece020 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = r.val) (e2 : c.val = 1024 + d.val) :
    head0 (g02 i x0 x1 x2 x3 x4) (ix3 0 r d) = blk i x0 x1 x2 x3 x4 s c := by
  refine (head0_at _ _ _ _ _ _ _ _ _ _ _ _ r d).trans (mix_congr ?_ ?_ ?_ ?_ ?_ ?_ ?_ ?_ ?_)
  · rw [if_pos (by omega)]
  · intro j e; rw [prevRow, if_pos (by omega)]; pointwise [r0_28]; blk_point []
  · intro j e; rw [ownRow]; pointwise [r0_29]; blk_point []
  · intro e; pointwise [r0_24]; blk_point []
  · intro j; pointwise [r0_62]; blk_point []
  · intro j; pointwise [r0_63]; blk_point []
  · intro j; rw [prevRow, if_pos (by omega)]; pointwise [r0_2]; blk_point []
  · intro j; rw [ownRow]; pointwise [r0_6]; blk_point []
  · pointwise [r0_64]; blk_point []

theorem piece013 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = r.val) (e2 : c.val = 896 + d.val) :
    head3 (g01 i x0 x1 x2 x3 x4) (ix3 0 r d) = blk i x0 x1 x2 x3 x4 s c := by
  refine (head3_at _ _ _ _ _ _ _ _ _ _ _ _ r d).trans (mix_congr ?_ ?_ ?_ ?_ ?_ ?_ ?_ ?_ ?_)
  · rw [if_pos (by omega)]
  · intro j e; rw [prevRow, if_pos (by omega)]; pointwise [r0_22]; blk_point []
  · intro j e; rw [ownRow]; pointwise [r0_23]; blk_point []
  · intro e; pointwise [r0_21]; blk_point []
  · intro j; pointwise [r0_59]; blk_point []
  · intro j; pointwise [r0_60]; blk_point []
  · intro j; rw [prevRow, if_pos (by omega)]; pointwise [r0_1]; blk_point []
  · intro j; rw [ownRow]; pointwise [r0_5]; blk_point []
  · pointwise [r0_61]; blk_point []

theorem piece012 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = r.val) (e2 : c.val = 768 + d.val) :
    head2 (g01 i x0 x1 x2 x3 x4) (ix3 0 r d) = blk i x0 x1 x2 x3 x4 s c := by
  refine (head2_at _ _ _ _ _ _ _ _ _ _ _ _ r d).trans (mix_congr ?_ ?_ ?_ ?_ ?_ ?_ ?_ ?_ ?_)
  · rw [if_pos (by omega)]
  · intro j e; rw [prevRow, if_pos (by omega)]; pointwise [r0_22]; blk_point []
  · intro j e; rw [ownRow]; pointwise [r0_23]; blk_point []
  · intro e; pointwise [r0_20]; blk_point []
  · intro j; pointwise [r0_59]; blk_point []
  · intro j; pointwise [r0_60]; blk_point []
  · intro j; rw [prevRow, if_pos (by omega)]; pointwise [r0_1]; blk_point []
  · intro j; rw [ownRow]; pointwise [r0_5]; blk_point []
  · pointwise [r0_61]; blk_point []

theorem piece011 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = r.val) (e2 : c.val = 640 + d.val) :
    head1 (g01 i x0 x1 x2 x3 x4) (ix3 0 r d) = blk i x0 x1 x2 x3 x4 s c := by
  refine (head1_at _ _ _ _ _ _ _ _ _ _ _ _ r d).trans (mix_congr ?_ ?_ ?_ ?_ ?_ ?_ ?_ ?_ ?_)
  · rw [if_pos (by omega)]
  · intro j e; rw [prevRow, if_pos (by omega)]; pointwise [r0_22]; blk_point []
  · intro j e; rw [ownRow]; pointwise [r0_23]; blk_point []
  · intro e; pointwise [r0_19]; blk_point []
  · intro j; pointwise [r0_59]; blk_point []
  · intro j; pointwise [r0_60]; blk_point []
  · intro j; rw [prevRow, if_pos (by omega)]; pointwise [r0_1]; blk_point []
  · intro j; rw [ownRow]; pointwise [r0_5]; blk_point []
  · pointwise [r0_61]; blk_point []

theorem piece010 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = r.val) (e2 : c.val = 512 + d.val) :
    head0 (g01 i x0 x1 x2 x3 x4) (ix3 0 r d) = blk i x0 x1 x2 x3 x4 s c := by
  refine (head0_at _ _ _ _ _ _ _ _ _ _ _ _ r d).trans (mix_congr ?_ ?_ ?_ ?_ ?_ ?_ ?_ ?_ ?_)
  · rw [if_pos (by omega)]
  · intro j e; rw [prevRow, if_pos (by omega)]; pointwise [r0_22]; blk_point []
  · intro j e; rw [ownRow]; pointwise [r0_23]; blk_point []
  · intro e; pointwise [r0_18]; blk_point []
  · intro j; pointwise [r0_59]; blk_point []
  · intro j; pointwise [r0_60]; blk_point []
  · intro j; rw [prevRow, if_pos (by omega)]; pointwise [r0_1]; blk_point []
  · intro j; rw [ownRow]; pointwise [r0_5]; blk_point []
  · pointwise [r0_61]; blk_point []

theorem piece003 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = r.val) (e2 : c.val = 384 + d.val) :
    head3 (g00 i x0 x1 x2 x3 x4) (ix3 0 r d) = blk i x0 x1 x2 x3 x4 s c := by
  refine (head3_at _ _ _ _ _ _ _ _ _ _ _ _ r d).trans (mix_congr ?_ ?_ ?_ ?_ ?_ ?_ ?_ ?_ ?_)
  · rw [if_pos (by omega)]
  · intro j e; rw [prevRow, if_pos (by omega)]; pointwise [r0_16]; blk_point []
  · intro j e; rw [ownRow]; pointwise [r0_17]; blk_point []
  · intro e; pointwise [r0_15]; blk_point []
  · intro j; pointwise [r0_56]; blk_point []
  · intro j; pointwise [r0_57]; blk_point []
  · intro j; rw [prevRow, if_pos (by omega)]; pointwise [r0_0]; blk_point []
  · intro j; rw [ownRow]; pointwise [r0_4]; blk_point []
  · pointwise [r0_58]; blk_point []

theorem piece002 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = r.val) (e2 : c.val = 256 + d.val) :
    head2 (g00 i x0 x1 x2 x3 x4) (ix3 0 r d) = blk i x0 x1 x2 x3 x4 s c := by
  refine (head2_at _ _ _ _ _ _ _ _ _ _ _ _ r d).trans (mix_congr ?_ ?_ ?_ ?_ ?_ ?_ ?_ ?_ ?_)
  · rw [if_pos (by omega)]
  · intro j e; rw [prevRow, if_pos (by omega)]; pointwise [r0_16]; blk_point []
  · intro j e; rw [ownRow]; pointwise [r0_17]; blk_point []
  · intro e; pointwise [r0_14]; blk_point []
  · intro j; pointwise [r0_56]; blk_point []
  · intro j; pointwise [r0_57]; blk_point []
  · intro j; rw [prevRow, if_pos (by omega)]; pointwise [r0_0]; blk_point []
  · intro j; rw [ownRow]; pointwise [r0_4]; blk_point []
  · pointwise [r0_58]; blk_point []

theorem piece001 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = r.val) (e2 : c.val = 128 + d.val) :
    head1 (g00 i x0 x1 x2 x3 x4) (ix3 0 r d) = blk i x0 x1 x2 x3 x4 s c := by
  refine (head1_at _ _ _ _ _ _ _ _ _ _ _ _ r d).trans (mix_congr ?_ ?_ ?_ ?_ ?_ ?_ ?_ ?_ ?_)
  · rw [if_pos (by omega)]
  · intro j e; rw [prevRow, if_pos (by omega)]; pointwise [r0_16]; blk_point []
  · intro j e; rw [ownRow]; pointwise [r0_17]; blk_point []
  · intro e; pointwise [r0_13]; blk_point []
  · intro j; pointwise [r0_56]; blk_point []
  · intro j; pointwise [r0_57]; blk_point []
  · intro j; rw [prevRow, if_pos (by omega)]; pointwise [r0_0]; blk_point []
  · intro j; rw [ownRow]; pointwise [r0_4]; blk_point []
  · pointwise [r0_58]; blk_point []

theorem piece000 (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (s : Fin 256) (c : Fin 2048) (r d : Fin 128) (e1 : s.val = r.val) (e2 : c.val = d.val) :
    head0 (g00 i x0 x1 x2 x3 x4) (ix3 0 r d) = blk i x0 x1 x2 x3 x4 s c := by
  refine (head0_at _ _ _ _ _ _ _ _ _ _ _ _ r d).trans (mix_congr ?_ ?_ ?_ ?_ ?_ ?_ ?_ ?_ ?_)
  · rw [if_pos (by omega)]
  · intro j e; rw [prevRow, if_pos (by omega)]; pointwise [r0_16]; blk_point []
  · intro j e; rw [ownRow]; pointwise [r0_17]; blk_point []
  · intro e; pointwise [r0_12]; blk_point []
  · intro j; pointwise [r0_56]; blk_point []
  · intro j; pointwise [r0_57]; blk_point []
  · intro j; rw [prevRow, if_pos (by omega)]; pointwise [r0_0]; blk_point []
  · intro j; rw [ownRow]; pointwise [r0_4]; blk_point []
  · pointwise [r0_58]; blk_point []

theorem tile (i : grid0.Coords) (x0 : Vec Ideal S1x256x2048 .bf16) (x1 : Vec Ideal S1x128x1024 .bf16)
    (x2 : Vec Ideal S1x256x1024 .bf16) (x3 : Vec Ideal S4x256x512 .f32) (x4 : Vec Ideal S4x1x512 .f32)
    (y : S1x256x2048.Idx) : out0_5 i x0 x1 x2 x3 x4 y = blk i x0 x1 x2 x3 x4 (y 1) (y 2) := by
  rw [out_eq]
  canon_tiles x h
  · refine Eq.trans ?_ (piece133 i x0 x1 x2 x3 x4 (y 1) (y 2) (x 1) (x 2) h1 h2)
    exact congrArg _ ((eq_ix3 x).trans (congrArg (fun z => ix3 z _ _) (Subsingleton.elim _ _)))
  · refine Eq.trans ?_ (piece132 i x0 x1 x2 x3 x4 (y 1) (y 2) (x 1) (x 2) h1 h2)
    exact congrArg _ ((eq_ix3 x).trans (congrArg (fun z => ix3 z _ _) (Subsingleton.elim _ _)))
  · refine Eq.trans ?_ (piece131 i x0 x1 x2 x3 x4 (y 1) (y 2) (x 1) (x 2) h1 h2)
    exact congrArg _ ((eq_ix3 x).trans (congrArg (fun z => ix3 z _ _) (Subsingleton.elim _ _)))
  · refine Eq.trans ?_ (piece130 i x0 x1 x2 x3 x4 (y 1) (y 2) (x 1) (x 2) h1 h2)
    exact congrArg _ ((eq_ix3 x).trans (congrArg (fun z => ix3 z _ _) (Subsingleton.elim _ _)))
  · refine Eq.trans ?_ (piece123 i x0 x1 x2 x3 x4 (y 1) (y 2) (x 1) (x 2) h1 h2)
    exact congrArg _ ((eq_ix3 x).trans (congrArg (fun z => ix3 z _ _) (Subsingleton.elim _ _)))
  · refine Eq.trans ?_ (piece122 i x0 x1 x2 x3 x4 (y 1) (y 2) (x 1) (x 2) h1 h2)
    exact congrArg _ ((eq_ix3 x).trans (congrArg (fun z => ix3 z _ _) (Subsingleton.elim _ _)))
  · refine Eq.trans ?_ (piece121 i x0 x1 x2 x3 x4 (y 1) (y 2) (x 1) (x 2) h1 h2)
    exact congrArg _ ((eq_ix3 x).trans (congrArg (fun z => ix3 z _ _) (Subsingleton.elim _ _)))
  · refine Eq.trans ?_ (piece120 i x0 x1 x2 x3 x4 (y 1) (y 2) (x 1) (x 2) h1 h2)
    exact congrArg _ ((eq_ix3 x).trans (congrArg (fun z => ix3 z _ _) (Subsingleton.elim _ _)))
  · refine Eq.trans ?_ (piece113 i x0 x1 x2 x3 x4 (y 1) (y 2) (x 1) (x 2) h1 h2)
    exact congrArg _ ((eq_ix3 x).trans (congrArg (fun z => ix3 z _ _) (Subsingleton.elim _ _)))
  · refine Eq.trans ?_ (piece112 i x0 x1 x2 x3 x4 (y 1) (y 2) (x 1) (x 2) h1 h2)
    exact congrArg _ ((eq_ix3 x).trans (congrArg (fun z => ix3 z _ _) (Subsingleton.elim _ _)))
  · refine Eq.trans ?_ (piece111 i x0 x1 x2 x3 x4 (y 1) (y 2) (x 1) (x 2) h1 h2)
    exact congrArg _ ((eq_ix3 x).trans (congrArg (fun z => ix3 z _ _) (Subsingleton.elim _ _)))
  · refine Eq.trans ?_ (piece110 i x0 x1 x2 x3 x4 (y 1) (y 2) (x 1) (x 2) h1 h2)
    exact congrArg _ ((eq_ix3 x).trans (congrArg (fun z => ix3 z _ _) (Subsingleton.elim _ _)))
  · refine Eq.trans ?_ (piece103 i x0 x1 x2 x3 x4 (y 1) (y 2) (x 1) (x 2) h1 h2)
    exact congrArg _ ((eq_ix3 x).trans (congrArg (fun z => ix3 z _ _) (Subsingleton.elim _ _)))
  · refine Eq.trans ?_ (piece102 i x0 x1 x2 x3 x4 (y 1) (y 2) (x 1) (x 2) h1 h2)
    exact congrArg _ ((eq_ix3 x).trans (congrArg (fun z => ix3 z _ _) (Subsingleton.elim _ _)))
  · refine Eq.trans ?_ (piece101 i x0 x1 x2 x3 x4 (y 1) (y 2) (x 1) (x 2) h1 h2)
    exact congrArg _ ((eq_ix3 x).trans (congrArg (fun z => ix3 z _ _) (Subsingleton.elim _ _)))
  · refine Eq.trans ?_ (piece100 i x0 x1 x2 x3 x4 (y 1) (y 2) (x 1) (x 2) h1 h2)
    exact congrArg _ ((eq_ix3 x).trans (congrArg (fun z => ix3 z _ _) (Subsingleton.elim _ _)))
  · refine Eq.trans ?_ (piece033 i x0 x1 x2 x3 x4 (y 1) (y 2) (x 1) (x 2) h1 h2)
    exact congrArg _ ((eq_ix3 x).trans (congrArg (fun z => ix3 z _ _) (Subsingleton.elim _ _)))
  · refine Eq.trans ?_ (piece032 i x0 x1 x2 x3 x4 (y 1) (y 2) (x 1) (x 2) h1 h2)
    exact congrArg _ ((eq_ix3 x).trans (congrArg (fun z => ix3 z _ _) (Subsingleton.elim _ _)))
  · refine Eq.trans ?_ (piece031 i x0 x1 x2 x3 x4 (y 1) (y 2) (x 1) (x 2) h1 h2)
    exact congrArg _ ((eq_ix3 x).trans (congrArg (fun z => ix3 z _ _) (Subsingleton.elim _ _)))
  · refine Eq.trans ?_ (piece030 i x0 x1 x2 x3 x4 (y 1) (y 2) (x 1) (x 2) h1 h2)
    exact congrArg _ ((eq_ix3 x).trans (congrArg (fun z => ix3 z _ _) (Subsingleton.elim _ _)))
  · refine Eq.trans ?_ (piece023 i x0 x1 x2 x3 x4 (y 1) (y 2) (x 1) (x 2) h1 h2)
    exact congrArg _ ((eq_ix3 x).trans (congrArg (fun z => ix3 z _ _) (Subsingleton.elim _ _)))
  · refine Eq.trans ?_ (piece022 i x0 x1 x2 x3 x4 (y 1) (y 2) (x 1) (x 2) h1 h2)
    exact congrArg _ ((eq_ix3 x).trans (congrArg (fun z => ix3 z _ _) (Subsingleton.elim _ _)))
  · refine Eq.trans ?_ (piece021 i x0 x1 x2 x3 x4 (y 1) (y 2) (x 1) (x 2) h1 h2)
    exact congrArg _ ((eq_ix3 x).trans (congrArg (fun z => ix3 z _ _) (Subsingleton.elim _ _)))
  · refine Eq.trans ?_ (piece020 i x0 x1 x2 x3 x4 (y 1) (y 2) (x 1) (x 2) h1 h2)
    exact congrArg _ ((eq_ix3 x).trans (congrArg (fun z => ix3 z _ _) (Subsingleton.elim _ _)))
  · refine Eq.trans ?_ (piece013 i x0 x1 x2 x3 x4 (y 1) (y 2) (x 1) (x 2) h1 h2)
    exact congrArg _ ((eq_ix3 x).trans (congrArg (fun z => ix3 z _ _) (Subsingleton.elim _ _)))
  · refine Eq.trans ?_ (piece012 i x0 x1 x2 x3 x4 (y 1) (y 2) (x 1) (x 2) h1 h2)
    exact congrArg _ ((eq_ix3 x).trans (congrArg (fun z => ix3 z _ _) (Subsingleton.elim _ _)))
  · refine Eq.trans ?_ (piece011 i x0 x1 x2 x3 x4 (y 1) (y 2) (x 1) (x 2) h1 h2)
    exact congrArg _ ((eq_ix3 x).trans (congrArg (fun z => ix3 z _ _) (Subsingleton.elim _ _)))
  · refine Eq.trans ?_ (piece010 i x0 x1 x2 x3 x4 (y 1) (y 2) (x 1) (x 2) h1 h2)
    exact congrArg _ ((eq_ix3 x).trans (congrArg (fun z => ix3 z _ _) (Subsingleton.elim _ _)))
  · refine Eq.trans ?_ (piece003 i x0 x1 x2 x3 x4 (y 1) (y 2) (x 1) (x 2) h1 h2)
    exact congrArg _ ((eq_ix3 x).trans (congrArg (fun z => ix3 z _ _) (Subsingleton.elim _ _)))
  · refine Eq.trans ?_ (piece002 i x0 x1 x2 x3 x4 (y 1) (y 2) (x 1) (x 2) h1 h2)
    exact congrArg _ ((eq_ix3 x).trans (congrArg (fun z => ix3 z _ _) (Subsingleton.elim _ _)))
  · refine Eq.trans ?_ (piece001 i x0 x1 x2 x3 x4 (y 1) (y 2) (x 1) (x 2) h1 h2)
    exact congrArg _ ((eq_ix3 x).trans (congrArg (fun z => ix3 z _ _) (Subsingleton.elim _ _)))
  · refine Eq.trans ?_ (piece000 i x0 x1 x2 x3 x4 (y 1) (y 2) (x 1) (x 2) h1 h2)
    exact congrArg _ ((eq_ix3 x).trans (congrArg (fun z => ix3 z _ _) (Subsingleton.elim _ _)))

end Cert.Swa

end
-- ==== Proof.Swa.lean ====
/- The windowed attention's result array, as one function of the arrays that its grid steps read. -/
module

public import proofs.«01_k».proof.Proof.SwaBlock
public import proofs.«01_k».proof.Proof.Gen.KernelIdeal.Value

@[expose] public section

set_option maxRecDepth 16384

noncomputable section

open Idealize.ShloMosaic Idealize.ShloMosaic.TcCoe Idealize.SL.Sem
open Idealize.ShloMosaic.Pipeline (Dat)

namespace Cert.Swa
open Cert.KernelIdeal Cert.KernelIdeal.Gen Cert.Band

/-- One element of the result: batch `b`, position `s`, column `l`. -/
def val (q : FVec Ideal S4x4096x2048 .bf16) (kv : FVec Ideal S4x4096x1024 .bf16) (B : FVec Ideal S4x256x512 .f32)
    (S : FVec Ideal S4x1x512 .f32) (b : Fin 4) (s : Fin 4096) (l : Fin 2048) : EReal :=
  mix (before (BitVec.ofBool (decide (0 < s.val / 128)))
      (fun j e => kv (ix3 b ⟨(s.val / 128 - 1) * 128 + j, by omega⟩ ⟨128 * (l.val / 512) + e, by omega⟩))
      (fun e => q (ix3 b s ⟨128 * (l.val / 128) + e, by omega⟩))
      fun j => B (ix3 ⟨l.val / 512, by omega⟩ ⟨j, by omega⟩ ⟨128 * (l.val / 128 % 4) + s.val % 128, by omega⟩))
    (own (fun j e => kv (ix3 b ⟨s.val / 128 * 128 + j, by omega⟩ ⟨128 * (l.val / 512) + e, by omega⟩))
      (fun e => q (ix3 b s ⟨128 * (l.val / 128) + e, by omega⟩))
      fun j => B (ix3 ⟨l.val / 512, by omega⟩ ⟨128 + j, by omega⟩ ⟨128 * (l.val / 128 % 4) + s.val % 128, by omega⟩))
    (fun j => kv (ix3 b ⟨(s.val / 128 - 1) * 128 + j, by omega⟩ ⟨512 + 128 * (l.val / 512) + l.val % 128, by omega⟩))
    (fun j => kv (ix3 b ⟨s.val / 128 * 128 + j, by omega⟩ ⟨512 + 128 * (l.val / 512) + l.val % 128, by omega⟩))
    (S (ix3 ⟨l.val / 512, by omega⟩ 0 ⟨128 * (l.val / 128 % 4) + s.val % 128, by omega⟩) * l2e)

/-- The result array. -/
def OUT (q : FVec Ideal S4x4096x2048 .bf16) (kv : FVec Ideal S4x4096x1024 .bf16) (B : FVec Ideal S4x256x512 .f32)
    (S : FVec Ideal S4x1x512 .f32) : FVec Ideal S4x4096x2048 .bf16 := fun j => val q kv B S (j 0) (j 1) (j 2)

theorem idx : ∀ t : Fin cfg0.N, win0_0.index t = ![t.val / 16, t.val % 16, 0] ∧ win0_1.index t = ![t.val / 16, 2 * (t.val % 16) - 1, 0]
    ∧ win0_2.index t = ![t.val / 16, t.val % 16, 0] ∧ win0_3.index t = ![0, 0, 0] ∧ win0_4.index t = ![0, 0, 0]
    ∧ win0_5.index t = ![t.val / 16, t.val % 16, 0] :=
  (by decide +kernel : ∀ t : Fin grid0.N, _)

theorem bits : ∀ (t : Fin cfg0.N) (w : Fin 2), bit (grid0.coords t) (if w.val = 0 then 0#1 else 1#1)
    = BitVec.ofBool (decide (0 < 2 * (t.val % 16) + w.val)) :=
  (by decide +kernel : ∀ (t : Fin grid0.N) (w : Fin 2), bit (grid0.coords t) (if w.val = 0 then 0#1 else 1#1)
    = BitVec.ofBool (decide (0 < 2 * (t.val % 16) + w.val)))

variable (m : (ℓ : Loc nD τ sig) → Buf (Elt Ideal) ℓ)

theorem bit_at (t : Fin cfg0.N) (s : Fin 256) (p : Fin 4096) (h : p.val = t.val % 16 * 256 + s.val) :
    bit (grid0.coords t) (if s.val < 128 then 0#1 else 1#1) = BitVec.ofBool (decide (0 < p.val / 128)) := by
  have e := bits t ⟨s.val / 128, by omega⟩
  have e1 : (s.val / 128 = 0) = (s.val < 128) := propext (by omega)
  have e2 : (0 < 2 * (t.val % 16) + s.val / 128) = (0 < p.val / 128) := propext (by omega)
  simp only [e1, e2] at e
  exact e

theorem before_off (t : BitVec 1) (h : t = 0#1) (k k' : Fin 128 → Fin 128 → EReal) (q b : Fin 128 → EReal) :
    before t k q b = before t k' q b := by
  funext j
  rw [before, before, h, Scalar.select, Scalar.select, if_neg (by decide), if_neg (by decide)]

theorem prev_at (c : Dev nD) (t : Fin cfg0.N) (u : Fin 256) (b : Fin 4) (s : Fin 4096) (j : Fin 128) (e e' : Fin 1024)
    (eb : b.val = t.val / 16) (es : s.val = t.val % 16 * 256 + u.val) (ee : e'.val = e.val) :
    prevRow (iblk m c 1 t) (iblk m c 2 t) u j e
      = (show FVec Ideal S4x4096x1024 .f32 from m ((c : Thread nD τ).loc main_arg1)) (ix3 b ⟨(s.val / 128 - 1) * 128 + j, by omega⟩ e') := by
  rw [prevRow]
  by_cases h : u.val < 128
  · rw [if_pos h]
    blk_point [iblk, V, idx t]
  · rw [if_neg h]
    blk_point [iblk, V, idx t]

theorem own_at (c : Dev nD) (t : Fin cfg0.N) (u : Fin 256) (b : Fin 4) (s : Fin 4096) (j : Fin 128) (e e' : Fin 1024)
    (eb : b.val = t.val / 16) (es : s.val = t.val % 16 * 256 + u.val) (ee : e'.val = e.val) :
    ownRow (iblk m c 2 t) u j e
      = (show FVec Ideal S4x4096x1024 .f32 from m ((c : Thread nD τ).loc main_arg1)) (ix3 b ⟨s.val / 128 * 128 + j, by omega⟩ e') := by
  rw [ownRow]
  blk_point [iblk, V, idx t]

theorem qry_at (c : Dev nD) (t : Fin cfg0.N) (u : Fin 256) (b : Fin 4) (s : Fin 4096) (e e' : Fin 2048)
    (eb : b.val = t.val / 16) (es : s.val = t.val % 16 * 256 + u.val) (ee : e'.val = e.val) :
    (show FVec Ideal S1x256x2048 .bf16 from iblk m c 0 t) (ix3 0 u e)
      = (show FVec Ideal S4x4096x2048 .f32 from m ((c : Thread nD τ).loc main_arg0)) (ix3 b s e') := by
  blk_point [iblk, V, idx t]

theorem bias_at (c : Dev nD) (t : Fin cfg0.N) (g g' : Fin 4) (j : Fin 256) (r r' : Fin 512) (hg : g'.val = g.val) (hr : r'.val = r.val) :
    (show FVec Ideal S4x256x512 .f32 from iblk m c 3 t) (ix3 g j r) = (show FVec Ideal S4x256x512 .f32 from V m c main_v47) (ix3 g' j r') := by
  obtain rfl : g' = g := Fin.ext hg
  obtain rfl : r' = r := Fin.ext hr
  blk_ext [iblk, idx t]

theorem sink_at (c : Dev nD) (t : Fin cfg0.N) (g g' : Fin 4) (r r' : Fin 512) (hg : g'.val = g.val) (hr : r'.val = r.val) :
    (show FVec Ideal S4x1x512 .f32 from iblk m c 4 t) (ix3 g 0 r) = (show FVec Ideal S4x1x512 .f32 from V m c main_v52) (ix3 g' 0 r') := by
  obtain rfl : g' = g := Fin.ext hg
  obtain rfl : r' = r := Fin.ext hr
  blk_ext [iblk, idx t]

theorem point (c : Dev nD) (t : Fin cfg0.N) (y : S1x256x2048.Idx) :
    out0_5 (grid0.coords t) (iblk m c 0 t) (iblk m c 1 t) (iblk m c 2 t) (iblk m c 3 t) (iblk m c 4 t) y
    = OUT (m ((c : Thread nD τ).loc main_arg0)) (m ((c : Thread nD τ).loc main_arg1)) (V m c main_v47) (V m c main_v52)
        (((cfg0.win 5).blk t).view.emb y) := by
  refine (tile _ _ _ _ _ _ y).trans ?_
  rw [OUT]
  generalize hb : (((cfg0.win 5).blk t).view.emb y) 0 = b
  generalize hs : (((cfg0.win 5).blk t).view.emb y) 1 = s
  generalize hl : (((cfg0.win 5).blk t).view.emb y) 2 = l
  have eb : b.val = t.val / 16 := by rw [← hb]; blk_simp [idx t]; try omega
  have es : s.val = t.val % 16 * 256 + (y 1).val := by rw [← hs]; blk_simp [idx t]; try omega
  have el : l.val = (y 2).val := by rw [← hl]; blk_simp [idx t]; try omega
  refine mix_congr (bit_at t _ _ es) ?_ ?_ ?_ ?_ ?_ ?_ ?_ ?_
  · exact fun j e => prev_at m c t (y 1) b s j _ _ eb es (by simp only [el])
  · exact fun j e => own_at m c t (y 1) b s j _ _ eb es (by simp only [el])
  · exact fun e => qry_at m c t (y 1) b s _ _ eb es (by simp only [el])
  · exact fun j => bias_at m c t _ _ _ _ _ (by simp only [el]) (by simp only [el, es]; omega)
  · exact fun j => bias_at m c t _ _ _ _ _ (by simp only [el]) (by simp only [el, es]; omega)
  · exact fun j => prev_at m c t (y 1) b s j _ _ eb es (by simp only [el])
  · exact fun j => own_at m c t (y 1) b s j _ _ eb es (by simp only [el])
  · exact congrArg (· * l2e) (sink_at m c t _ _ _ _ (by simp only [el]) (by simp only [el, es]; omega))

theorem final (c : Dev nD) : (dats m 0 c).arrAt 5 (cfgs 0).N
    = OUT (m ((c : Thread nD τ).loc main_arg0)) (m ((c : Thread nD τ).loc main_arg1)) (V m c main_v47) (V m c main_v52) := by
  refine (dats m 0 c).arrAt_eq_of_covers 5 _ (by decide +kernel) fun t _ y => ?_
  blk_simp
  rw [after0_5]
  exact point m c t y

end Cert.Swa

end
-- ==== Proof.SwaRef.lean ====
/- The windowed attention's reference, stage by stage. -/
module

public import proofs.«01_k».proof.Proof.Gen.ReferenceIdeal.Run
public import proofs.«01_k».proof.Proof.SwaBlock

@[expose] public section

set_option maxRecDepth 16384

noncomputable section

open Idealize.ShloMosaic Idealize.ShloMosaic.TcCoe Idealize.SL.Sem
open Idealize.ShloMosaic.Pipeline (Dat)

namespace Cert.SwaRef
open Cert.ReferenceIdeal Cert.ReferenceIdeal.Gen

/-- How far a key lies behind its query. -/
def dist  : IVec S128x256 32 :=
  subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))

/-- The same, no less than nought. -/
def age  : IVec S128x256 32 :=
  maxsi dist (broadcastInDim S128x256 ![] bcast_S_S128x256 (constantI S_ 32 0#32))

/-- The bucket of a distance. -/
def bucket  : IVec S128x256 32 :=
  select (cmpi .slt age (broadcastInDim S128x256 ![] bcast_S_S128x256 (constantI S_ 32 16#32))) age (minsi (addi (broadcastInDim S128x256 ![] bcast_S_S128x256 (constantI S_ 32 16#32)) (fptosi 32 (mulf (Host.divf (Host.log (Host.divf (sitofp (F := Ideal) .f32 (maxsi age (broadcastInDim S128x256 ![] bcast_S_S128x256 (constantI S_ 32 1#32)))) (broadcastInDim S128x256 ![] bcast_S_S128x256 (constant (F := Ideal) S_ .f32 0x41800000#32)))) (broadcastInDim S128x256 ![] bcast_S_S128x256 (constant (F := Ideal) S_ .f32 0x40051592#32))) (broadcastInDim S128x256 ![] bcast_S_S128x256 (constant (F := Ideal) S_ .f32 0x41800000#32)) : (⟨S128x256, .f32⟩ : BufTy).Contents (Elt Ideal)))) (broadcastInDim S128x256 ![] bcast_S_S128x256 (constantI S_ 32 31#32)))

/-- The table row that is taken for it. -/
def row  : IVec S128x256 32 :=
  select (cmpi .slt bucket (broadcastInDim S128x256 ![] bcast_S_S128x256 (constantI S_ 32 0#32))) (addi bucket (broadcastInDim S128x256 ![] bcast_S_S128x256 (constantI S_ 32 32#32))) bucket

/-- Whether the key is in the window. -/
def inBand  : IVec S128x256 1 :=
  andi (cmpi .sge dist (broadcastInDim S128x256 ![] bcast_S_S128x256 (constantI S_ 32 0#32))) (cmpi .slt dist (broadcastInDim S128x256 ![] bcast_S_S128x256 (constantI S_ 32 128#32)))

/-- The keys of a block and of the one before it. -/
def keys (kv : FVec Ideal S4x4096x1024 .f32) : FVec Ideal S4x32x256x4x128 .f32 :=
  concatenate S4x32x256x4x128 2 [⟨S4x32x128x4x128, (concatenate S4x32x128x4x128 1 [⟨S4x1x128x4x128, (broadcastInDim S4x1x128x4x128 ![] bcast_S_S4x1x128x4x128 (constant (F := Ideal) S_ .f32 0x00000000#32))⟩, ⟨S4x31x128x4x128, (extractStridedSlice S4x31x128x4x128 ![0, 0, 0, 0, 0] (shapeCast _ (extractStridedSlice S4x4096x512 ![0, 0, 0] kv slices_S4x4096x1024_S4x4096x512_0_0_0) shapeCasts_S4x4096x512_S4x32x128x4x128) slices_S4x32x128x4x128_S4x31x128x4x128_0_0_0_0_0)⟩] concatenates_S4x1x128x4x128_S4x31x128x4x128_S4x32x128x4x128_d1)⟩, ⟨S4x32x128x4x128, (shapeCast _ (extractStridedSlice S4x4096x512 ![0, 0, 0] kv slices_S4x4096x1024_S4x4096x512_0_0_0) shapeCasts_S4x4096x512_S4x32x128x4x128)⟩] concatenates_S4x32x128x4x128_S4x32x128x4x128_S4x32x256x4x128_d2

/-- The values of a block and of the one before it. -/
def vals (kv : FVec Ideal S4x4096x1024 .f32) : FVec Ideal S4x32x256x4x128 .f32 :=
  concatenate S4x32x256x4x128 2 [⟨S4x32x128x4x128, (concatenate S4x32x128x4x128 1 [⟨S4x1x128x4x128, (broadcastInDim S4x1x128x4x128 ![] bcast_S_S4x1x128x4x128 (constant (F := Ideal) S_ .f32 0x00000000#32))⟩, ⟨S4x31x128x4x128, (extractStridedSlice S4x31x128x4x128 ![0, 0, 0, 0, 0] (shapeCast _ (extractStridedSlice S4x4096x512 ![0, 0, 512] kv slices_S4x4096x1024_S4x4096x512_0_0_512) shapeCasts_S4x4096x512_S4x32x128x4x128) slices_S4x32x128x4x128_S4x31x128x4x128_0_0_0_0_0)⟩] concatenates_S4x1x128x4x128_S4x31x128x4x128_S4x32x128x4x128_d1)⟩, ⟨S4x32x128x4x128, (shapeCast _ (extractStridedSlice S4x4096x512 ![0, 0, 512] kv slices_S4x4096x1024_S4x4096x512_0_0_512) shapeCasts_S4x4096x512_S4x32x128x4x128)⟩] concatenates_S4x32x128x4x128_S4x32x128x4x128_S4x32x256x4x128_d2

/-- The products of queries and keys. -/
def scores (q : FVec Ideal S4x4096x2048 .f32) (kv : FVec Ideal S4x4096x1024 .f32) : FVec Ideal S4x4x4x32x128x256 .f32 :=
  transpose S4x4x4x32x128x256 [0, 1, 5, 2, 4, 3] (Host.dotGeneral dot_S4x32x256x4x128_S4x32x128x4x4x128_S4x4x32x256x128x4_4_5_2_24_031_031 none (keys kv) (shapeCast _ q shapeCasts_S4x4096x2048_S4x32x128x4x4x128)) transposes_S4x4x32x256x128x4_S4x4x4x32x128x256_0_1_5_2_4_3

/-- The bias of each distance. -/
def bias (rb : FVec Ideal S32x16 .f32) : FVec Ideal S4x4x4x32x128x256 .f32 :=
  broadcastInDim S4x4x4x32x128x256 ![0, 1, 2, 3, 4, 5] bcast_S1x4x4x1x128x256_S4x4x4x32x128x256_0_1_2_3_4_5 (broadcastInDim S1x4x4x1x128x256 ![1, 2, 3, 4, 5] bcast_S4x4x1x128x256_S1x4x4x1x128x256_1_2_3_4_5 (shapeCast _ (transpose S16x128x256 [2, 0, 1] (Host.gather gather_S32x16_S128x256x1_S128x256x16_2_0_n_n_0_2_116 rb (broadcastInDim S128x256x1 ![0, 1] bcast_S128x256_S128x256x1_0_1 row)) transposes_S128x256x16_S16x128x256_2_0_1) shapeCasts_S16x128x256_S4x4x1x128x256))

/-- The masked logits. -/
def logits (q : FVec Ideal S4x4096x2048 .f32) (kv : FVec Ideal S4x4096x1024 .f32) (rb : FVec Ideal S32x16 .f32) : FVec Ideal S4x4x4x32x128x256 .f32 :=
  select (broadcastInDim S4x4x4x32x128x256 ![3, 4, 5] bcast_S32x128x256_S4x4x4x32x128x256_3_4_5 (andi (broadcastInDim S32x128x256 ![0, 1, 2] bcast_S1x128x256_S32x128x256_0_1_2 (broadcastInDim S1x128x256 ![1, 2] bcast_S128x256_S1x128x256_1_2 inBand)) (broadcastInDim S32x128x256 ![0, 1, 2] bcast_S32x1x256_S32x128x256_0_1_2 (cmpi .sge (subi (addi (broadcastInDim S32x1x256 ![0, 1, 2] bcast_S32x1x1_S32x1x256_0_1_2 (muli (broadcastInDim S32x1x1 ![0] bcast_S32_S32x1x1_0 (iotaInDim S32 32 0)) (broadcastInDim S32x1x1 ![] bcast_S_S32x1x1 (constantI S_ 32 128#32)))) (broadcastInDim S32x1x256 ![0, 1, 2] bcast_S1x1x256_S32x1x256_0_1_2 (broadcastInDim S1x1x256 ![1, 2] bcast_S1x256_S1x1x256_1_2 (broadcastInDim S1x256 ![1] bcast_S256_S1x256_1 (iotaInDim S256 32 0))))) (broadcastInDim S32x1x256 ![] bcast_S_S32x1x256 (constantI S_ 32 128#32))) (broadcastInDim S32x1x256 ![] bcast_S_S32x1x256 (constantI S_ 32 0#32)))))) (addf (mulf (scores q kv) (broadcastInDim S4x4x4x32x128x256 ![] bcast_S_S4x4x4x32x128x256 (Host.rsqrt (constant (F := Ideal) S_ .f32 0x43000000#32)))) (bias rb)) (broadcastInDim S4x4x4x32x128x256 ![] bcast_S_S4x4x4x32x128x256 (id (constant (F := Ideal) S_ .f32 0xFF800000#32)))

/-- The logits and the sink. -/
def full (q : FVec Ideal S4x4096x2048 .f32) (kv : FVec Ideal S4x4096x1024 .f32)
    (rb : FVec Ideal S32x16 .f32) (sk : FVec Ideal S2x16 .f32) : FVec Ideal S4x4x4x32x128x257 .f32 :=
  concatenate S4x4x4x32x128x257 5 [⟨S4x4x4x32x128x256, (logits q kv rb)⟩, ⟨S4x4x4x32x128x1, (broadcastInDim S4x4x4x32x128x1 ![1, 2, 3, 4, 5] bcast_S4x4x1x1x1_S4x4x4x32x128x1_1_2_3_4_5 (shapeCast _ (shapeCast _ (extractStridedSlice S1x16 ![1, 0] sk slices_S2x16_S1x16_1_0) shapeCasts_S1x16_S16) shapeCasts_S16_S4x4x1x1x1))⟩] concatenates_S4x4x4x32x128x256_S4x4x4x32x128x1_S4x4x4x32x128x257_d5

/-- The largest logit of a row. -/
def peak (q : FVec Ideal S4x4096x2048 .f32) (kv : FVec Ideal S4x4096x1024 .f32)
    (rb : FVec Ideal S32x16 .f32) (sk : FVec Ideal S2x16 .f32) : FVec Ideal S4x4x4x32x128 .f32 :=
  Host.reduce FloatOps.maximumf (full q kv rb sk) (constant (F := Ideal) S_ .f32 0xFF800000#32) reducesTo_S4x4x4x32x128x257_S4x4x4x32x128_d5 h_S_

/-- The largest logit. -/
def top (q : FVec Ideal S4x4096x2048 .f32) (kv : FVec Ideal S4x4096x1024 .f32)
    (rb : FVec Ideal S32x16 .f32) (sk : FVec Ideal S2x16 .f32) : FVec Ideal S4x4x4x32x128 .f32 :=
  maximumf (broadcastInDim S4x4x4x32x128 ![] bcast_S_S4x4x4x32x128 (constant (F := Ideal) S_ .f32 0xFF800000#32)) (peak q kv rb sk)

/-- Their exponentials. -/
def exps (q : FVec Ideal S4x4096x2048 .f32) (kv : FVec Ideal S4x4096x1024 .f32)
    (rb : FVec Ideal S32x16 .f32) (sk : FVec Ideal S2x16 .f32) : FVec Ideal S4x4x4x32x128x257 .f32 :=
  Host.exp (subf (full q kv rb sk) (broadcastInDim S4x4x4x32x128x257 ![0, 1, 2, 3, 4, 5] bcast_S4x4x4x32x128x1_S4x4x4x32x128x257_0_1_2_3_4_5 (broadcastInDim S4x4x4x32x128x1 ![0, 1, 2, 3, 4] bcast_S4x4x4x32x128_S4x4x4x32x128x1_0_1_2_3_4 (top q kv rb sk))))

/-- The sum of the exponentials. -/
def total (q : FVec Ideal S4x4096x2048 .f32) (kv : FVec Ideal S4x4096x1024 .f32)
    (rb : FVec Ideal S32x16 .f32) (sk : FVec Ideal S2x16 .f32) : FVec Ideal S4x4x4x32x128 .f32 :=
  Host.reduceAdd (exps q kv rb sk) (constant (F := Ideal) S_ .f32 0x00000000#32) reducesTo_S4x4x4x32x128x257_S4x4x4x32x128_d5 h_S_

/-- The softmax. -/
def probs (q : FVec Ideal S4x4096x2048 .f32) (kv : FVec Ideal S4x4096x1024 .f32)
    (rb : FVec Ideal S32x16 .f32) (sk : FVec Ideal S2x16 .f32) : FVec Ideal S4x4x4x32x128x257 .f32 :=
  Host.divf (exps q kv rb sk) (broadcastInDim S4x4x4x32x128x257 ![0, 1, 2, 3, 4, 5] bcast_S4x4x4x32x128x1_S4x4x4x32x128x257_0_1_2_3_4_5 (broadcastInDim S4x4x4x32x128x1 ![0, 1, 2, 3, 4] bcast_S4x4x4x32x128_S4x4x4x32x128x1_0_1_2_3_4 (total q kv rb sk)))

/-- The result. -/
def result (q : FVec Ideal S4x4096x2048 .f32) (kv : FVec Ideal S4x4096x1024 .f32)
    (rb : FVec Ideal S32x16 .f32) (sk : FVec Ideal S2x16 .f32) : FVec Ideal S4x4096x2048 .bf16 :=
  truncf .bf16 (shapeCast _ (transpose S4x32x128x4x4x128 [0, 1, 5, 2, 4, 3] (Host.dotGeneral dot_S4x32x256x4x128_S4x4x4x32x128x256_S4x32x4x128x4x128_2_5_4_24_013_031 none (vals kv) (extractStridedSlice S4x4x4x32x128x256 ![0, 0, 0, 0, 0, 0] (probs q kv rb sk) slices_S4x4x4x32x128x257_S4x4x4x32x128x256_0_0_0_0_0_0)) transposes_S4x32x4x128x4x128_S4x32x128x4x4x128_0_1_5_2_4_3) shapeCasts_S4x32x128x4x4x128_S4x4096x2048) bitsLt_bf16_f32

theorem result_eq (m : (ℓ : Loc nD τ sig) → Buf (Elt Ideal) ℓ) (c : Dev nD) : Value.res_main_v103 m c
    = result (m ((c : Thread nD τ).loc main_arg0)) (m ((c : Thread nD τ).loc main_arg1)) (m ((c : Thread nD τ).loc main_arg2))
        (m ((c : Thread nD τ).loc main_arg3)) := rfl

end Cert.SwaRef

end
-- ==== Proof.LastAxis.lean ====
/- A reduction over the last of six axes, as one over that axis alone. -/
module

public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LastAxis

variable {n0 n1 n2 n3 n4 n5 : Nat}

/-- The indices that share their first five coordinates. -/
def line (a : Fin n0) (b : Fin n1) (c : Fin n2) (d : Fin n3) (e : Fin n4) :
    Fin n5 ↪ (⟨6, ![n0, n1, n2, n3, n4, n5]⟩ : Shape).Idx :=
  ⟨fun k => ix6 a b c d e k, fun k k' h => congrFun h 5⟩

theorem filter_eq (h : (⟨6, ![n0, n1, n2, n3, n4, n5]⟩ : Shape).ReducesTo [5] ⟨5, ![n0, n1, n2, n3, n4]⟩)
    (a : Fin n0) (b : Fin n1) (c : Fin n2) (d : Fin n3) (e : Fin n4) :
    Finset.univ.filter (fun i => h.drop i = ix5 a b c d e) = Finset.univ.map (line (n5 := n5) a b c d e) := by
  ext i
  simp only [Finset.mem_filter, Finset.mem_univ, true_and, Finset.mem_map]
  constructor
  · intro q
    refine ⟨i 5, ?_⟩
    have q0 : i 0 = a := congrFun q 0
    have q1 : i 1 = b := congrFun q 1
    have q2 : i 2 = c := congrFun q 2
    have q3 : i 3 = d := congrFun q 3
    have q4 : i 4 = e := congrFun q 4
    show ix6 a b c d e (i 5) = i
    rw [← q0, ← q1, ← q2, ← q3, ← q4]
    exact (eq_ix6 i).symm
  · rintro ⟨k, rfl⟩
    funext x
    match x with
    | ⟨0, _⟩ => rfl
    | ⟨1, _⟩ => rfl
    | ⟨2, _⟩ => rfl
    | ⟨3, _⟩ => rfl
    | ⟨4, _⟩ => rfl

theorem fold_eq (h : (⟨6, ![n0, n1, n2, n3, n4, n5]⟩ : Shape).ReducesTo [5] ⟨5, ![n0, n1, n2, n3, n4]⟩)
    (z : EReal) (f : (⟨6, ![n0, n1, n2, n3, n4, n5]⟩ : Shape).Idx → EReal)
    (a : Fin n0) (b : Fin n1) (c : Fin n2) (d : Fin n3) (e : Fin n4) :
    Finset.fold max z f (Finset.univ.filter fun i => h.drop i = ix5 a b c d e)
      = Finset.univ.fold max z fun k : Fin n5 => f (ix6 a b c d e k) := by
  rw [filter_eq, Finset.fold_map]
  rfl

theorem sum_eq (h : (⟨6, ![n0, n1, n2, n3, n4, n5]⟩ : Shape).ReducesTo [5] ⟨5, ![n0, n1, n2, n3, n4]⟩)
    (z : EReal) (f : (⟨6, ![n0, n1, n2, n3, n4, n5]⟩ : Shape).Idx → EReal)
    (a : Fin n0) (b : Fin n1) (c : Fin n2) (d : Fin n3) (e : Fin n4) :
    Ideal.hostReduceAdd h f z (ix5 a b c d e) = z + ∑ k : Fin n5, f (ix6 a b c d e k) := by
  unfold Ideal.hostReduceAdd
  rw [filter_eq, Finset.sum_map]
  rfl

theorem reduce_max (h : (⟨6, ![n0, n1, n2, n3, n4, n5]⟩ : Shape).ReducesTo [5] ⟨5, ![n0, n1, n2, n3, n4]⟩)
    (f : FVec Ideal (⟨6, ![n0, n1, n2, n3, n4, n5]⟩ : Shape) .f32) (init : FVec Ideal (⟨0, ![]⟩ : Shape) .f32)
    (hu : 0 < (⟨0, ![]⟩ : Shape).numel)
    (a : Fin n0) (b : Fin n1) (c : Fin n2) (d : Fin n3) (e : Fin n4) :
    Host.reduce (FloatOps.maximumf (F := Ideal) (φ := .f32)) f init h hu (ix5 a b c d e)
      = Finset.univ.fold max (init (Shape.Idx.first hu)) fun k : Fin n5 => f (ix6 a b c d e k) := by
  refine (Host.reduce_eq_fold (f := (max : EReal → EReal → EReal)) f init h hu (ix5 a b c d e)).trans ?_
  exact fold_eq h _ f a b c d e

theorem reduce_add (h : (⟨6, ![n0, n1, n2, n3, n4, n5]⟩ : Shape).ReducesTo [5] ⟨5, ![n0, n1, n2, n3, n4]⟩)
    (f : FVec Ideal (⟨6, ![n0, n1, n2, n3, n4, n5]⟩ : Shape) .f32) (init : FVec Ideal (⟨0, ![]⟩ : Shape) .f32)
    (hu : 0 < (⟨0, ![]⟩ : Shape).numel)
    (a : Fin n0) (b : Fin n1) (c : Fin n2) (d : Fin n3) (e : Fin n4) :
    Host.reduceAdd f init h hu (ix5 a b c d e)
      = (init (Shape.Idx.first hu) : EReal) + ∑ k : Fin n5, (f (ix6 a b c d e k) : EReal) :=
  sum_eq h _ f a b c d e

end Cert.LastAxis

end
-- ==== Proof.SwaRefAt.lean ====
/- The windowed attention's reference, read at an index. -/
module

public import proofs.«01_k».proof.Proof.SwaRef
public import proofs.«01_k».proof.Proof.LastAxis

@[expose] public section

set_option maxRecDepth 16384

noncomputable section

open Idealize.ShloMosaic Idealize.ShloMosaic.TcCoe Idealize.SL.Sem
open Idealize.ShloMosaic.Pipeline (Dat)

namespace Cert.SwaRef
open Cert.ReferenceIdeal Cert.ReferenceIdeal.Gen

theorem keys_at (kv : FVec Ideal S4x4096x1024 .f32) (b : Fin 4) (n : Fin 32) (j : Fin 256) (h : Fin 4) (d : Fin 128) :
    keys kv (ix5 b n j h d) = if hj : j.val < 128 then
        (if hn : n.val < 1 then (0 : EReal) else kv (ix3 b ⟨(n.val - 1) * 128 + j.val, by omega⟩ ⟨h.val * 128 + d.val, by omega⟩))
      else kv (ix3 b ⟨n.val * 128 + (j.val - 128), by omega⟩ ⟨h.val * 128 + d.val, by omega⟩) := by
  pointwise [keys]

theorem vals_at (kv : FVec Ideal S4x4096x1024 .f32) (b : Fin 4) (n : Fin 32) (j : Fin 256) (h : Fin 4) (d : Fin 128) :
    vals kv (ix5 b n j h d) = if hj : j.val < 128 then
        (if hn : n.val < 1 then (0 : EReal) else kv (ix3 b ⟨(n.val - 1) * 128 + j.val, by omega⟩ ⟨512 + (h.val * 128 + d.val), by omega⟩))
      else kv (ix3 b ⟨n.val * 128 + (j.val - 128), by omega⟩ ⟨512 + (h.val * 128 + d.val), by omega⟩) := by
  pointwise [vals]

theorem scores_at (q : FVec Ideal S4x4096x2048 .f32) (kv : FVec Ideal S4x4096x1024 .f32) (b h g : Fin 4) (n : Fin 32) (r : Fin 128) (j : Fin 256) :
    scores q kv (ix6 b h g n r j)
      = ∑ x : Fin 128, (keys kv (ix5 b n j h x) : EReal) * q (ix3 b ⟨n.val * 128 + r.val, by omega⟩ ⟨h.val * 512 + g.val * 128 + x.val, by omega⟩) := by
  pointwise [scores]

theorem row_at (r : Fin 128) (j : Fin 256) : row (ix2 r j)
    = Scalar.select (IntOp.cmpi .slt (bucket (ix2 r j)) 0#32) (IntOp.addi (bucket (ix2 r j)) 32#32) (bucket (ix2 r j)) := by
  pointwise [row]

theorem gather_at (x : FVec Ideal S32x16 .f32) (i : IVec S128x256x1 32) (r : Fin 128) (j : Fin 256) (l : Fin 16) :
    Host.gather gather_S32x16_S128x256x1_S128x256x16_2_0_n_n_0_2_116 x i (ix3 r j l)
      = x (ix2 ⟨min (i (ix3 r j 0)).toInt.toNat 31, by omega⟩ l) := by
  unfold Host.gather
  congr 1
  funext a
  refine Fin.ext ?_
  show (gather_S32x16_S128x256x1_S128x256x16_2_0_n_n_0_2_116).start (ix3 r j l) i a
    + (gather_S32x16_S128x256x1_S128x256x16_2_0_n_n_0_2_116).batchCoord (ix3 r j l) a
    + (gather_S32x16_S128x256x1_S128x256x16_2_0_n_n_0_2_116).offCoord (ix3 r j l) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S32x16_S128x256x1_S128x256x16_2_0_n_n_0_2_116).startIndexMap from List.mem_singleton.mpr rfl)]
    have hsi : (gather_S32x16_S128x256x1_S128x256x16_2_0_n_n_0_2_116).siIdx (ix3 r j l) ⟨List.idxOf (0 : Fin 2) (gather_S32x16_S128x256x1_S128x256x16_2_0_n_n_0_2_116).startIndexMap,
        List.idxOf_lt_length_iff.2 (List.mem_singleton.mpr rfl)⟩ = ix3 r j 0 := by
      funext b; refine Fin.ext ?_
      match b with
      | ⟨0, _⟩ => rfl
      | ⟨1, _⟩ => rfl
      | ⟨2, _⟩ => rfl
    rw [hsi]
    rfl
  · rw [GatherDims.batchCoord_eq_zero _ _ _ List.not_mem_nil]
    unfold GatherDims.start
    rw [dif_neg (show ¬ (1 : Fin 2) ∈ (gather_S32x16_S128x256x1_S128x256x16_2_0_n_n_0_2_116).startIndexMap from by decide)]
    simp only [Nat.zero_add]
    rfl

theorem bias_at (rb : FVec Ideal S32x16 .f32) (b h g : Fin 4) (n : Fin 32) (r : Fin 128) (j : Fin 256) :
    bias rb (ix6 b h g n r j) = rb (ix2 ⟨min (row (ix2 r j)).toInt.toNat 31, by omega⟩ ⟨h.val * 4 + g.val, by omega⟩) := by
  pointwise [bias]
  rw [gather_at]
  rfl

theorem logits_at (q : FVec Ideal S4x4096x2048 .f32) (kv : FVec Ideal S4x4096x1024 .f32) (rb : FVec Ideal S32x16 .f32) (b h g : Fin 4) (n : Fin 32) (r : Fin 128) (j : Fin 256) :
    logits q kv rb (ix6 b h g n r j)
      = Scalar.select (IntOp.andi (inBand (ix2 r j)) (IntOp.cmpi .sge (IntOp.subi (IntOp.addi (IntOp.muli (BitVec.ofNat 32 n.val) 128#32) (BitVec.ofNat 32 j.val)) 128#32) 0#32))
        ((scores q kv (ix6 b h g n r j) : EReal) * Ideal.rsqrt (Ideal.ofBits .f32 0x43000000#32) + bias rb (ix6 b h g n r j))
        (Ideal.ofBits .f32 0xFF800000#32) := by
  pointwise [logits]
  rfl

theorem full_at (q : FVec Ideal S4x4096x2048 .f32) (kv : FVec Ideal S4x4096x1024 .f32) (rb : FVec Ideal S32x16 .f32) (sk : FVec Ideal S2x16 .f32) (b h g : Fin 4) (n : Fin 32) (r : Fin 128) (j : Fin 257) :
    full q kv rb sk (ix6 b h g n r j) = if hj : j.val < 256 then logits q kv rb (ix6 b h g n r ⟨j.val, hj⟩)
      else sk (ix2 1 ⟨h.val * 4 + g.val, by omega⟩) := by
  pointwise [full]

theorem peak_at (q : FVec Ideal S4x4096x2048 .f32) (kv : FVec Ideal S4x4096x1024 .f32) (rb : FVec Ideal S32x16 .f32) (sk : FVec Ideal S2x16 .f32) (b h g : Fin 4) (n : Fin 32) (r : Fin 128) :
    peak q kv rb sk (ix5 b h g n r)
      = Finset.univ.fold max (constant (F := Ideal) S_ .f32 0xFF800000#32 (Shape.Idx.first h_S_)) fun k : Fin 257 => full q kv rb sk (ix6 b h g n r k) := by
  unfold peak
  exact LastAxis.reduce_max _ (full q kv rb sk) _ _ b h g n r

theorem max_at (p : FVec Ideal S4x4x4x32x128 .f32) (b h g : Fin 4) (n : Fin 32) (r : Fin 128) :
    (maximumf (broadcastInDim S4x4x4x32x128 ![] bcast_S_S4x4x4x32x128 (constant (F := Ideal) S_ .f32 0xFF800000#32)) p) (ix5 b h g n r)
      = max (Ideal.ofBits .f32 0xFF800000#32) (p (ix5 b h g n r)) := by
  pointwise []

theorem top_at (q : FVec Ideal S4x4096x2048 .f32) (kv : FVec Ideal S4x4096x1024 .f32) (rb : FVec Ideal S32x16 .f32) (sk : FVec Ideal S2x16 .f32) (b h g : Fin 4) (n : Fin 32) (r : Fin 128) :
    top q kv rb sk (ix5 b h g n r) = max (Ideal.ofBits .f32 0xFF800000#32) (peak q kv rb sk (ix5 b h g n r)) :=
  max_at (peak q kv rb sk) b h g n r

theorem total_at (q : FVec Ideal S4x4096x2048 .f32) (kv : FVec Ideal S4x4096x1024 .f32) (rb : FVec Ideal S32x16 .f32) (sk : FVec Ideal S2x16 .f32) (b h g : Fin 4) (n : Fin 32) (r : Fin 128) :
    total q kv rb sk (ix5 b h g n r) = Ideal.ofBits .f32 0x00000000#32 + ∑ k : Fin 257, (exps q kv rb sk (ix6 b h g n r k) : EReal) := by
  unfold total
  exact LastAxis.reduce_add _ (exps q kv rb sk) _ _ b h g n r

theorem exps_at (q : FVec Ideal S4x4096x2048 .f32) (kv : FVec Ideal S4x4096x1024 .f32) (rb : FVec Ideal S32x16 .f32) (sk : FVec Ideal S2x16 .f32) (b h g : Fin 4) (n : Fin 32) (r : Fin 128) (j : Fin 257) :
    exps q kv rb sk (ix6 b h g n r j) = Ideal.exp (full q kv rb sk (ix6 b h g n r j) - top q kv rb sk (ix5 b h g n r)) := by
  pointwise [exps]

theorem probs_at (q : FVec Ideal S4x4096x2048 .f32) (kv : FVec Ideal S4x4096x1024 .f32) (rb : FVec Ideal S32x16 .f32) (sk : FVec Ideal S2x16 .f32) (b h g : Fin 4) (n : Fin 32) (r : Fin 128) (j : Fin 257) :
    probs q kv rb sk (ix6 b h g n r j) = Ideal.div (exps q kv rb sk (ix6 b h g n r j)) (total q kv rb sk (ix5 b h g n r)) := by
  pointwise [probs]

theorem result_at (q : FVec Ideal S4x4096x2048 .f32) (kv : FVec Ideal S4x4096x1024 .f32) (rb : FVec Ideal S32x16 .f32) (sk : FVec Ideal S2x16 .f32) (b : Fin 4) (s : Fin 4096) (l : Fin 2048) :
    result q kv rb sk (ix3 b s l) = ∑ x : Fin 256, (vals kv (ix5 b ⟨s.val / 128, by omega⟩ x ⟨l.val / 512, by omega⟩ ⟨l.val % 128, by omega⟩) : EReal)
      * probs q kv rb sk (ix6 b ⟨l.val / 512, by omega⟩ ⟨l.val / 128 % 4, by omega⟩ ⟨s.val / 128, by omega⟩ ⟨s.val % 128, by omega⟩ ⟨x.val, by omega⟩) := by
  pointwise [result]

theorem dist_at (r : Fin 128) (j : Fin 256) : dist (ix2 r j) = IntOp.subi (IntOp.addi (BitVec.ofNat 32 r.val) 128#32) (BitVec.ofNat 32 j.val) := by
  pointwise [dist]

theorem inBand_at (r : Fin 128) (j : Fin 256) : inBand (ix2 r j)
    = IntOp.andi (IntOp.cmpi .sge (dist (ix2 r j)) 0#32) (IntOp.cmpi .slt (dist (ix2 r j)) 128#32) := by
  pointwise [inBand]

theorem bucket_at (r : Fin 128) (j : Fin 256) : bucket (ix2 r j)
    = Scalar.select (IntOp.cmpi .slt (IntOp.maxsi (dist (ix2 r j)) 0#32) 16#32) (IntOp.maxsi (dist (ix2 r j)) 0#32)
      (IntOp.minsi (IntOp.addi 16#32 (FloatOps.fptosi (F := Ideal) (φ := .f32) 32 (Ideal.div (Ideal.log (Ideal.div (FloatOps.sitofp (F := Ideal) .f32 (IntOp.maxsi (IntOp.maxsi (dist (ix2 r j)) 0#32) 1#32))
        (Ideal.ofBits .f32 0x41800000#32))) (Ideal.ofBits .f32 0x40051592#32) * Ideal.ofBits .f32 0x41800000#32))) 31#32) := by
  pointwise [bucket, age]

end Cert.SwaRef

end
-- ==== Proof.Consts.lean ====
/- The values of the constants that the host arithmetic works out. -/
module

public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Consts

theorem c128 : Ideal.ofBits .f32 0x43000000#32 = ((128 : ℝ) : EReal) := by
  simp only [Ideal.ofBits, Ideal.ieee]; simp; rw [← EReal.coe_mul]; norm_num

theorem c2 : Ideal.ofBits .f32 0x40000000#32 = ((2 : ℝ) : EReal) := by
  simp [Ideal.ofBits, Ideal.ieee]; rw [← EReal.coe_mul]; norm_num

theorem c16 : Ideal.ofBits .f32 0x41800000#32 = ((16 : ℝ) : EReal) := by
  simp only [Ideal.ofBits, Ideal.ieee]; simp; rw [← EReal.coe_mul]; norm_num

theorem c1 : Ideal.ofBits .f32 0x3F800000#32 = ((1 : ℝ) : EReal) := by
  simp [Ideal.ofBits, Ideal.ieee]; rw [← EReal.coe_mul]; norm_num

theorem c0 : Ideal.ofBits .f32 0x00000000#32 = ((0 : ℝ) : EReal) := by
  simp [Ideal.ofBits, Ideal.ieee]

theorem cLow : Ideal.ofBits .f32 0xFF800000#32 = (⊥ : EReal) := by
  simp [Ideal.ofBits, Ideal.ieee]

theorem root : Ideal.rsqrt (Ideal.ofBits .f32 0x43000000#32) = (((Real.sqrt 128)⁻¹ : ℝ) : EReal) := by
  rw [c128]
  show (if (128 : ℝ) < 0 then (⊥ : EReal) else if (128 : ℝ) = 0 then ⊤ else (((Real.sqrt 128)⁻¹ : ℝ) : EReal)) = _
  rw [if_neg (by norm_num), if_neg (by norm_num)]

theorem ln2 : Ideal.log (Ideal.ofBits .f32 0x40000000#32) = ((Real.log 2 : ℝ) : EReal) := by
  rw [c2]
  show (if (2 : ℝ) ≤ 0 then (⊥ : EReal) else ((Real.log 2 : ℝ) : EReal)) = _
  rw [if_neg (by norm_num)]

theorem scale : Ideal.div (Ideal.rsqrt (Ideal.ofBits .f32 0x43000000#32)) (Ideal.log (Ideal.ofBits .f32 0x40000000#32))
    = (((Real.sqrt 128)⁻¹ * (Real.log 2)⁻¹ : ℝ) : EReal) := by
  have h : Real.log 2 ≠ 0 := (Real.log_pos (by norm_num)).ne'
  rw [root, ln2, Ideal.div_coe h, ← EReal.coe_mul, one_div]

end Cert.Consts

end
-- ==== Proof.SwaTable.lean ====
/- The tables that the windowed attention takes: bias and sink of a head, laid out for the kernel. -/
module

public import proofs.«01_k».proof.Proof.Gen.KernelIdeal.Value
public import proofs.«01_k».proof.Proof.SwaRefAt
public import proofs.«01_k».proof.Proof.Consts
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SwaTable
open Cert.KernelIdeal Cert.KernelIdeal.Gen

/-- As the kernel's host code computes it: how far a key lies behind its query. -/
def dist  : IVec S128x256 32 :=
  subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))

/-- As the kernel's host code computes it: the same, no less than nought. -/
def age  : IVec S128x256 32 :=
  maxsi dist (broadcastInDim S128x256 ![] bcast_S_S128x256 (constantI S_ 32 0#32))

/-- As the kernel's host code computes it: its bucket. -/
def bucket  : IVec S128x256 32 :=
  select (cmpi .slt age (broadcastInDim S128x256 ![] bcast_S_S128x256 (constantI S_ 32 16#32))) age (minsi (addi (broadcastInDim S128x256 ![] bcast_S_S128x256 (constantI S_ 32 16#32)) (fptosi 32 (mulf (Host.divf (Host.log (Host.divf (sitofp (F := Ideal) .f32 (maxsi age (broadcastInDim S128x256 ![] bcast_S_S128x256 (constantI S_ 32 1#32)))) (broadcastInDim S128x256 ![] bcast_S_S128x256 (constant (F := Ideal) S_ .f32 0x41800000#32)))) (broadcastInDim S128x256 ![] bcast_S_S128x256 (constant (F := Ideal) S_ .f32 0x40051592#32))) (broadcastInDim S128x256 ![] bcast_S_S128x256 (constant (F := Ideal) S_ .f32 0x41800000#32)) : (⟨S128x256, .f32⟩ : BufTy).Contents (Elt Ideal)))) (broadcastInDim S128x256 ![] bcast_S_S128x256 (constantI S_ 32 31#32)))

/-- As the kernel's host code computes it: whether the key is in the window. -/
def inBand  : IVec S128x256 1 :=
  andi (cmpi .sge dist (broadcastInDim S128x256 ![] bcast_S_S128x256 (constantI S_ 32 0#32))) (cmpi .slt dist (broadcastInDim S128x256 ![] bcast_S_S128x256 (constantI S_ 32 128#32)))

/-- The bucket of each distance, one-hot. -/
def hot : FVec Ideal S32x128x256 .f32 :=
  uitofp .f32 (cmpi .eq (broadcastInDim S32x128x256 ![0, 1, 2] bcast_S1x128x256_S32x128x256_0_1_2 (broadcastInDim S1x128x256 ![1, 2] bcast_S128x256_S1x128x256_1_2 bucket))
    (broadcastInDim S32x128x256 ![0, 1, 2] bcast_S32x1x1_S32x128x256_0_1_2 (shapeCast _ (iotaInDim S32 32 0) shapeCasts_S32_S32x1x1)))

/-- The bias by head, query and key, -∞ outside of the window. -/
def table (rb : FVec Ideal S32x16 .f32) : FVec Ideal S16x128x256 .f32 :=
  select (broadcastInDim S16x128x256 ![1, 2] bcast_S128x256_S16x128x256_1_2 inBand)
    (Host.dotGeneral dot_S32x16_S32x128x256_S16x128x256_0_0_1_12_n_n (some .fp32) rb hot)
    (broadcastInDim S16x128x256 ![] bcast_S_S16x128x256 (id (constant (F := Ideal) S_ .f32 0xFF800000#32)))

/-- The same in the kernel's layout. -/
def laid (rb : FVec Ideal S32x16 .f32) : FVec Ideal S4x256x512 .f32 :=
  shapeCast _ (transpose S4x256x4x128 [0, 3, 1, 2] (shapeCast _ (table rb) shapeCasts_S16x128x256_S4x4x128x256) transposes_S4x4x128x256_S4x256x4x128_0_3_1_2) shapeCasts_S4x256x4x128_S4x256x512

def sinks (sk : FVec Ideal S2x16 .f32) : FVec Ideal S4x1x512 .f32 :=
  shapeCast _ (shapeCast _ (broadcastInDim S16x128 ![0] bcast_S16_S16x128_0 (shapeCast _ (extractStridedSlice S1x16 ![1, 0] sk slices_S2x16_S1x16_1_0) shapeCasts_S1x16_S16)) shapeCasts_S16x128_S2048) shapeCasts_S2048_S4x1x512

variable (m : (ℓ : Loc nD τ sig) → Buf (Elt Ideal) ℓ)

theorem sinks_eq (c : Dev nD) : V m c main_v52 = sinks (m ((c : Thread nD τ).loc main_arg3)) := by
  entry_read
  rfl

set_option maxHeartbeats 2000000 in
theorem laid_eq (c : Dev nD) : V m c main_v47 = laid (m ((c : Thread nD τ).loc main_arg2)) := by
  unfold V
  simp only [hostOps0, hostOps0_1, hostOps0_2, hostOps0_3, hostOps0_4, List.flatten_cons, List.flatten_nil, List.append_nil, List.cons_append, List.nil_append,
    StableHlo.TRef.ternary, StableHlo.TRef.unary, StableHlo.TRef.toBuf, StableHlo.TRef.ofBuf, cast_eq]
  after_results_simp
  rfl

theorem bucket_same (r : Fin 128) (j : Fin 256) : bucket (ix2 r j) = SwaRef.bucket (ix2 r j) := by
  rw [SwaRef.bucket_at, SwaRef.dist_at]
  pointwise [bucket, age, dist]

theorem inBand_same (r : Fin 128) (j : Fin 256) : inBand (ix2 r j) = SwaRef.inBand (ix2 r j) := by
  rw [SwaRef.inBand_at, SwaRef.dist_at]
  pointwise [inBand, dist]

theorem sinks_at (sk : FVec Ideal S2x16 .f32) (g g' : Fin 4) (r : Fin 128) :
    sinks sk (ix3 g 0 ⟨128 * g'.val + r.val, by omega⟩) = sk (ix2 1 ⟨g.val * 4 + g'.val, by omega⟩) := by
  pointwise [sinks]
  exact congrArg (fun x => sk (ix2 1 x)) (Fin.ext (by simp only; omega))

theorem hot_at (k : Fin 32) (r : Fin 128) (j : Fin 256) :
    hot (ix3 k r j) = FloatOps.uitofp (F := Ideal) .f32 (IntOp.cmpi .eq (bucket (ix2 r j)) (BitVec.ofNat 32 k.val)) := by
  pointwise [hot]

theorem table_at (rb : FVec Ideal S32x16 .f32) (h : Fin 16) (r : Fin 128) (j : Fin 256) :
    table rb (ix3 h r j) = Scalar.select (inBand (ix2 r j)) (∑ k : Fin 32, (rb (ix2 k h) : EReal) * hot (ix3 k r j)) (Ideal.ofBits .f32 0xFF800000#32) := by
  pointwise [table]
  rfl

theorem laid_at (rb : FVec Ideal S32x16 .f32) (g g' : Fin 4) (r : Fin 128) (j : Fin 256) :
    laid rb (ix3 g j ⟨128 * g'.val + r.val, by omega⟩) = table rb (ix3 ⟨g.val * 4 + g'.val, by omega⟩ r j) := by
  pointwise [laid]

end Cert.SwaTable

end
-- ==== Proof.Bucket.lean ====
/- The bucket of a distance inside the window is a row of the table. -/
module

public import proofs.«01_k».proof.Proof.SwaRefAt
public import proofs.«01_k».proof.Proof.Consts

@[expose] public section

set_option maxRecDepth 16384

noncomputable section

open Idealize.ShloMosaic Idealize.ShloMosaic.TcCoe Idealize.SL.Sem
open Idealize.ShloMosaic.Pipeline (Dat)

namespace Cert.SwaRef

theorem band_word : ∀ r : Fin 128, ∀ j : Fin 256,
    IntOp.andi (IntOp.cmpi .sge (IntOp.subi (IntOp.addi (BitVec.ofNat 32 r.val) 128#32) (BitVec.ofNat 32 j.val)) 0#32)
      (IntOp.cmpi .slt (IntOp.subi (IntOp.addi (BitVec.ofNat 32 r.val) 128#32) (BitVec.ofNat 32 j.val)) 128#32)
      = BitVec.ofBool (decide (r.val < j.val ∧ j.val ≤ r.val + 128)) := by
  decide +kernel

theorem dist_word : ∀ r : Fin 128, ∀ j : Fin 256, r.val < j.val → j.val ≤ r.val + 128 →
    IntOp.maxsi (IntOp.subi (IntOp.addi (BitVec.ofNat 32 r.val) 128#32) (BitVec.ofNat 32 j.val)) 0#32 = BitVec.ofNat 32 (r.val + 128 - j.val) := by
  decide +kernel

theorem small_word : ∀ a : Fin 128, IntOp.cmpi .slt (BitVec.ofNat 32 a.val) 16#32 = BitVec.ofBool (decide (a.val < 16)) := by
  decide +kernel

theorem one_word : ∀ a : Fin 128, 16 ≤ a.val → (IntOp.maxsi (BitVec.ofNat 32 a.val) 1#32).toInt = a.val := by
  decide +kernel

theorem cap_word : ∀ y : Fin 128, ∃ k : Fin 32, IntOp.minsi (IntOp.addi 16#32 (BitVec.ofInt 32 (y.val : ℤ))) 31#32 = BitVec.ofNat 32 k.val := by
  decide +kernel

theorem row_word : ∀ k : Fin 32, min (Scalar.select (IntOp.cmpi .slt (BitVec.ofNat 32 k.val) 0#32) (IntOp.addi (BitVec.ofNat 32 k.val) 32#32) (BitVec.ofNat 32 k.val)).toInt.toNat 31 = k.val := by
  decide +kernel

theorem inBand_eq (r : Fin 128) (j : Fin 256) : inBand (ix2 r j) = BitVec.ofBool (decide (r.val < j.val ∧ j.val ≤ r.val + 128)) := by
  rw [inBand_at, dist_at]; exact band_word r j

/-- The literal that stands for log 8. -/
theorem c8 : Ideal.ofBits .f32 0x40051592#32 = ((8721810 / 4194304 : ℝ) : EReal) := by
  simp only [Ideal.ofBits, Ideal.ieee]; simp; rw [← EReal.coe_mul]; norm_num

theorem log_word (a : Fin 128) (h : 16 ≤ a.val) : ∃ y : Fin 128, FloatOps.fptosi (F := Ideal) (φ := .f32) 32 (Ideal.div (Ideal.log (Ideal.div (FloatOps.sitofp (F := Ideal) .f32 (IntOp.maxsi (BitVec.ofNat 32 a.val) 1#32))
        (Ideal.ofBits .f32 0x41800000#32))) (Ideal.ofBits .f32 0x40051592#32) * Ideal.ofBits .f32 0x41800000#32) = BitVec.ofInt 32 (y.val : ℤ) := by
  have e1 : FloatOps.sitofp (F := Ideal) .f32 (IntOp.maxsi (BitVec.ofNat 32 a.val) 1#32) = ((a.val : ℝ) : EReal) := by
    show (((IntOp.maxsi (BitVec.ofNat 32 a.val) 1#32).toInt : ℝ) : EReal) = _
    rw [one_word a h]; simp
  have hq : (1 : ℝ) ≤ (a.val : ℝ) / 16 := by
    have : (16 : ℝ) ≤ (a.val : ℝ) := by exact_mod_cast h
    linarith
  have hq' : (a.val : ℝ) / 16 ≤ 8 := by
    have : (a.val : ℝ) ≤ 127 := by exact_mod_cast (show a.val ≤ 127 by omega)
    linarith
  have e2 : Ideal.div ((a.val : ℝ) : EReal) ((16 : ℝ) : EReal) = (((a.val : ℝ) / 16 : ℝ) : EReal) := by
    rw [Ideal.div_coe (by norm_num), ← EReal.coe_mul]; congr 1; ring
  have e3 : Ideal.log (((a.val : ℝ) / 16 : ℝ) : EReal) = ((Real.log ((a.val : ℝ) / 16) : ℝ) : EReal) := by
    show (if ((a.val : ℝ) / 16) ≤ 0 then (⊥ : EReal) else _) = _
    rw [if_neg (by linarith)]
  have l0 : 0 ≤ Real.log ((a.val : ℝ) / 16) := Real.log_nonneg hq
  have l1 : Real.log ((a.val : ℝ) / 16) ≤ 7 := by
    have := Real.log_le_sub_one_of_pos (show (0 : ℝ) < (a.val : ℝ) / 16 by linarith)
    linarith
  rw [e1, Consts.c16, e2, e3, c8, Ideal.div_coe (by norm_num), ← EReal.coe_mul, ← EReal.coe_mul]
  generalize hx : Real.log ((a.val : ℝ) / 16) * (1 / (8721810 / 4194304)) * 16 = x
  have x0 : 0 ≤ x := by rw [← hx]; positivity
  have x1 : x < 127 := by rw [← hx]; linarith
  have f0 : 0 ≤ ⌊x⌋ := Int.floor_nonneg.mpr x0
  have f1 : ⌊x⌋ < 128 := Int.floor_lt.mpr (by push_cast; linarith)
  refine ⟨⟨⌊x⌋.toNat, by omega⟩, ?_⟩
  show BitVec.ofInt 32 (Ideal.toIntClamped _ _ (x : EReal)) = _
  rw [Ideal.toIntClamped_coe, if_pos x0]
  congr 1
  push_cast
  omega

theorem bucket_range (r : Fin 128) (j : Fin 256) (h : r.val < j.val ∧ j.val ≤ r.val + 128) : ∃ k : Fin 32, bucket (ix2 r j) = BitVec.ofNat 32 k.val := by
  rw [bucket_at, dist_at, dist_word r j h.1 h.2]
  obtain ⟨a, ha⟩ : ∃ a : Fin 128, a.val = r.val + 128 - j.val := ⟨⟨r.val + 128 - j.val, by omega⟩, rfl⟩
  rw [← ha, small_word a]
  by_cases hs : a.val < 16
  · exact ⟨⟨a.val, by omega⟩, by rw [decide_eq_true hs]; rfl⟩
  · obtain ⟨y, hy⟩ := log_word a (by omega)
    obtain ⟨k, hk⟩ := cap_word y
    refine ⟨k, ?_⟩
    rw [decide_eq_false hs, hy]
    exact hk

end Cert.SwaRef

end
-- ==== Proof.Softmax.lean ====
/- Attention weights in powers of two against the plain softmax: the same average, over the extended reals. -/
module

public import Idealize.ShloMosaic.PureOps.Ideal
public import proofs.«01_k».proof.Proof.SwaBlock

@[expose] public section

set_option maxRecDepth 16384

noncomputable section

open Idealize.ShloMosaic Idealize.ShloMosaic.TcCoe Idealize.SL.Sem
open Idealize.ShloMosaic.Pipeline (Dat)

namespace Cert.Softmax

/-- A finite non-negative factor goes into a sum. -/
theorem sum_mul_coe {n : ℕ} (f : Fin n → EReal) (r : ℝ) (hr : 0 ≤ r) : (∑ i, f i) * (r : EReal) = ∑ i, f i * (r : EReal) := by
  induction n with
  | zero => simp
  | succ n ih =>
    rw [Fin.sum_univ_castSucc, Fin.sum_univ_castSucc,
      EReal.right_distrib_of_nonneg_of_ne_top (EReal.coe_nonneg.mpr hr) (EReal.coe_ne_top r), ih]

/-- The base-two exponential of a rescaled number is the plain one. -/
theorem exp2_scaled (x t : ℝ) :
    Ideal.exp2 ((((Real.log 2)⁻¹ : ℝ) : EReal) * (x : EReal) - (((Real.log 2)⁻¹ : ℝ) : EReal) * (t : EReal)) = ((Real.exp (x - t) : ℝ) : EReal) := by
  have h : Real.log 2 ≠ 0 := (Real.log_pos (by norm_num)).ne'
  rw [← EReal.coe_mul, ← EReal.coe_mul, ← EReal.coe_sub, Ideal.exp2_coe]
  congr 1
  show (2 : ℝ) ^ ((Real.log 2)⁻¹ * x - (Real.log 2)⁻¹ * t) = _
  rw [Real.rpow_def_of_pos (by norm_num)]
  congr 1
  field_simp

/-- The plain exponential below a finite bound, as a real number. -/
def weight (L : EReal) (t : ℝ) : ℝ := if L = ⊥ then 0 else Real.exp (L.toReal - t)

theorem weight_nonneg (L : EReal) (t : ℝ) : 0 ≤ weight L t := by
  unfold weight; split
  · exact le_refl _
  · exact (Real.exp_pos _).le

theorem exp_weight (L : EReal) (hL : L ≠ ⊤) (t : ℝ) : Ideal.exp (L - (t : EReal)) = (weight L t : EReal) := by
  unfold weight
  induction L with
  | bot => simp
  | coe x => rw [← EReal.coe_sub, Ideal.exp_coe, if_neg (EReal.coe_ne_bot x), EReal.toReal_coe]
  | top => exact absurd rfl hL

theorem exp2_weight (L : EReal) (hL : L ≠ ⊤) (t : ℝ) :
    Ideal.exp2 ((((Real.log 2)⁻¹ : ℝ) : EReal) * L - (((Real.log 2)⁻¹ : ℝ) : EReal) * (t : EReal)) = (weight L t : EReal) := by
  have hp : 0 < (Real.log 2)⁻¹ := inv_pos.mpr (Real.log_pos (by norm_num))
  induction L with
  | bot =>
    rw [EReal.coe_mul_bot_of_pos hp, ← EReal.coe_mul, EReal.bot_sub, Ideal.exp2_bot]
    simp [weight]
  | coe x => rw [exp2_scaled, weight, if_neg (EReal.coe_ne_bot x), EReal.toReal_coe]
  | top => exact absurd rfl hL

/-- Rescaling by a positive number keeps the order, so it goes through a maximum. -/
theorem fold_scaled {n : ℕ} (r : ℝ) (hr : 0 < r) (f : Fin n → EReal) :
    Finset.univ.fold max ⊥ (fun j => (r : EReal) * f j) = (r : EReal) * Finset.univ.fold max ⊥ f := by
  have hm : Monotone fun x : EReal => (r : EReal) * x := fun a b h => mul_le_mul_of_nonneg_left h (EReal.coe_nonneg.mpr hr.le)
  have h := Finset.fold_hom (s := (Finset.univ : Finset (Fin n))) (op := max) (op' := max) (b := (⊥ : EReal)) (f := f)
    (m := fun x : EReal => (r : EReal) * x) fun x y => hm.map_max
  rw [← h]
  simp only [EReal.coe_mul_bot_of_pos hr]

theorem max_three (f : EReal → EReal) (hm : Monotone f) (a b d : EReal) : max (max (f a) (f b)) (f d) = f (max (max a b) d) := by
  rw [hm.map_max, hm.map_max]

theorem fold_eq_sup {n : ℕ} (f : Fin n → EReal) : Finset.univ.fold max ⊥ f = Finset.univ.sup f := rfl

/-- The largest of a row with its sink is the largest of its halves and the sink. -/
theorem fold_split (L : Fin 256 → EReal) (z : EReal) :
    Finset.univ.fold max ⊥ (fun k : Fin 257 => if h : k.val < 256 then L ⟨k.val, h⟩ else z)
      = max (max (Finset.univ.fold max ⊥ fun j : Fin 128 => L ⟨j.val, by omega⟩)
          (Finset.univ.fold max ⊥ fun j : Fin 128 => L ⟨128 + j.val, by omega⟩)) z := by
  simp only [fold_eq_sup]
  apply le_antisymm
  · refine Finset.sup_le fun k _ => ?_
    by_cases h : k.val < 256
    · rw [dif_pos h]
      refine le_trans ?_ (le_max_left _ _)
      by_cases h1 : k.val < 128
      · refine le_trans ?_ (le_max_left _ _)
        exact Finset.le_sup (f := fun j : Fin 128 => L ⟨j.val, by omega⟩) (Finset.mem_univ (⟨k.val, h1⟩ : Fin 128))
      · refine le_trans ?_ (le_max_right _ _)
        have := Finset.le_sup (f := fun j : Fin 128 => L ⟨128 + j.val, by omega⟩) (Finset.mem_univ (⟨k.val - 128, by omega⟩ : Fin 128))
        refine le_trans (le_of_eq ?_) this
        exact congrArg L (Fin.ext (by simp only; omega))
    · rw [dif_neg h]; exact le_max_right _ _
  · refine max_le (max_le ?_ ?_) ?_
    · refine Finset.sup_le fun j _ => ?_
      have := Finset.le_sup (f := fun k : Fin 257 => if h : k.val < 256 then L ⟨k.val, h⟩ else z) (Finset.mem_univ (⟨j.val, by omega⟩ : Fin 257))
      rwa [dif_pos (show (⟨j.val, by omega⟩ : Fin 257).val < 256 by simp only; omega)] at this
    · refine Finset.sup_le fun j _ => ?_
      have := Finset.le_sup (f := fun k : Fin 257 => if h : k.val < 256 then L ⟨k.val, h⟩ else z) (Finset.mem_univ (⟨128 + j.val, by omega⟩ : Fin 257))
      rwa [dif_pos (show (⟨128 + j.val, by omega⟩ : Fin 257).val < 256 by simp only; omega)] at this
    · have := Finset.le_sup (f := fun k : Fin 257 => if h : k.val < 256 then L ⟨k.val, h⟩ else z) (Finset.mem_univ (⟨256, by omega⟩ : Fin 257))
      rwa [dif_neg (show ¬ (⟨256, by omega⟩ : Fin 257).val < 256 by simp only; omega)] at this

/-- It is finite. -/
theorem fold_real (L : Fin 256 → EReal) (z : ℝ) (hL : ∀ j, L j ≠ ⊤) :
    ∃ t : ℝ, Finset.univ.fold max ⊥ (fun k : Fin 257 => if h : k.val < 256 then L ⟨k.val, h⟩ else (z : EReal)) = (t : EReal) := by
  rw [fold_eq_sup]
  have ht : Finset.univ.sup (fun k : Fin 257 => if h : k.val < 256 then L ⟨k.val, h⟩ else (z : EReal)) ≠ ⊤ := by
    refine ne_of_lt ((Finset.sup_lt_iff (bot_lt_top)).mpr fun k _ => ?_)
    by_cases h : k.val < 256
    · rw [dif_pos h]; exact lt_top_iff_ne_top.mpr (hL _)
    · rw [dif_neg h]; exact EReal.coe_lt_top z
  have hb : Finset.univ.sup (fun k : Fin 257 => if h : k.val < 256 then L ⟨k.val, h⟩ else (z : EReal)) ≠ ⊥ := by
    have := Finset.le_sup (f := fun k : Fin 257 => if h : k.val < 256 then L ⟨k.val, h⟩ else (z : EReal)) (Finset.mem_univ (⟨256, by omega⟩ : Fin 257))
    rw [dif_neg (show ¬ (⟨256, by omega⟩ : Fin 257).val < 256 by simp only; omega)] at this
    intro h
    rw [h] at this
    exact EReal.coe_ne_bot z (le_bot_iff.mp this)
  exact ⟨_, (EReal.coe_toReal ht hb).symm⟩

theorem sum_split {M : Type} [AddCommMonoid M] (f : Fin 256 → M) :
    ∑ x, f x = (∑ j : Fin 128, f ⟨j.val, by omega⟩) + ∑ j : Fin 128, f ⟨128 + j.val, by omega⟩ :=
  Fin.sum_univ_add (a := 128) (b := 128) f

/-- The sum of the weights, with the sink's. -/
def mass (L : Fin 256 → EReal) (z t : ℝ) : ℝ := (∑ x, weight (L x) t) + Real.exp (z - t)

theorem mass_pos (L : Fin 256 → EReal) (z t : ℝ) : 0 < mass L z t :=
  add_pos_of_nonneg_of_pos (Finset.sum_nonneg fun x _ => weight_nonneg _ _) (Real.exp_pos _)

theorem coe_sum {n : ℕ} (f : Fin n → ℝ) : ((∑ i, f i : ℝ) : EReal) = ∑ i, (f i : EReal) := by
  induction n with
  | zero => simp
  | succ n ih => rw [Fin.sum_univ_castSucc, Fin.sum_univ_castSucc, EReal.coe_add, ih]

open Cert.Band in
/-- The kernel's average of values equals the softmax's: `L` are the logits, -∞ where masked; the values may differ
    where they are masked. -/
theorem mix_eq (L v v' : Fin 256 → EReal) (z : ℝ) (hL : ∀ j, L j ≠ ⊤) (hv : ∀ j, L j ≠ ⊥ → v j = v' j) :
    mix (fun j => (((Real.log 2)⁻¹ : ℝ) : EReal) * L ⟨j.val, by omega⟩) (fun j => (((Real.log 2)⁻¹ : ℝ) : EReal) * L ⟨128 + j.val, by omega⟩)
      (fun j => v ⟨j.val, by omega⟩) (fun j => v ⟨128 + j.val, by omega⟩) ((z : EReal) * (((Real.log 2)⁻¹ : ℝ) : EReal))
    = ∑ x : Fin 256, v' x * Ideal.div (Ideal.exp (L x - Finset.univ.fold max ⊥ fun k : Fin 257 => if h : k.val < 256 then L ⟨k.val, h⟩ else (z : EReal)))
        (∑ k : Fin 257, Ideal.exp ((if h : k.val < 256 then L ⟨k.val, h⟩ else (z : EReal))
          - Finset.univ.fold max ⊥ fun k : Fin 257 => if h : k.val < 256 then L ⟨k.val, h⟩ else (z : EReal))) := by
  have hp : 0 < (Real.log 2)⁻¹ := inv_pos.mpr (Real.log_pos (by norm_num))
  have hm : Monotone fun x : EReal => (((Real.log 2)⁻¹ : ℝ) : EReal) * x := fun a b h => mul_le_mul_of_nonneg_left h (EReal.coe_nonneg.mpr hp.le)
  obtain ⟨t, ht⟩ := fold_real L z hL
  have hM : max (max (Finset.univ.fold max low (fun j : Fin 128 => (((Real.log 2)⁻¹ : ℝ) : EReal) * L ⟨j.val, by omega⟩))
      (Finset.univ.fold max low (fun j : Fin 128 => (((Real.log 2)⁻¹ : ℝ) : EReal) * L ⟨128 + j.val, by omega⟩)))
      ((z : EReal) * (((Real.log 2)⁻¹ : ℝ) : EReal)) = (((Real.log 2)⁻¹ : ℝ) : EReal) * (t : EReal) := by
    rw [low_eq, fold_scaled _ hp fun j : Fin 128 => L ⟨j.val, by omega⟩, fold_scaled _ hp fun j : Fin 128 => L ⟨128 + j.val, by omega⟩,
      mul_comm (z : EReal), ← ht, fold_split]
    exact max_three _ hm _ _ _
  have hden : (∑ j : Fin 128, Ideal.exp2 ((((Real.log 2)⁻¹ : ℝ) : EReal) * L ⟨j.val, by omega⟩ - (((Real.log 2)⁻¹ : ℝ) : EReal) * (t : EReal)))
      + (∑ j : Fin 128, Ideal.exp2 ((((Real.log 2)⁻¹ : ℝ) : EReal) * L ⟨128 + j.val, by omega⟩ - (((Real.log 2)⁻¹ : ℝ) : EReal) * (t : EReal)))
      + Ideal.exp2 ((z : EReal) * (((Real.log 2)⁻¹ : ℝ) : EReal) - (((Real.log 2)⁻¹ : ℝ) : EReal) * (t : EReal)) = (mass L z t : EReal) := by
    rw [mul_comm (z : EReal), exp2_scaled, mass, EReal.coe_add, coe_sum, sum_split]
    simp only [exp2_weight _ (hL _)]
  have hden' : (∑ k : Fin 257, Ideal.exp ((if h : k.val < 256 then L ⟨k.val, h⟩ else (z : EReal)) - (t : EReal))) = (mass L z t : EReal) := by
    rw [Fin.sum_univ_castSucc, mass, EReal.coe_add, coe_sum]
    refine congrArg₂ (· + ·) (Finset.sum_congr rfl fun j _ => ?_) ?_
    · rw [dif_pos (show (Fin.castSucc j).val < 256 from j.isLt)]
      exact exp_weight _ (hL _) t
    · rw [dif_neg (show ¬ (Fin.last 256).val < 256 by simp), ← EReal.coe_sub, Ideal.exp_coe]
  have hterm : ∀ x : Fin 256, v x * (weight (L x) t : EReal) = v' x * (weight (L x) t : EReal) := by
    intro x
    by_cases h : L x = ⊥
    · rw [weight, if_pos h]; simp
    · rw [hv x h]
  have hne : mass L z t ≠ 0 := (mass_pos L z t).ne'
  rw [ht]
  unfold mix
  simp only [hM, hden, hden']
  rw [Ideal.div_coe hne]
  simp only [exp2_weight _ (hL _), exp_weight _ (hL _), Ideal.div_coe hne]
  rw [← sum_split fun x => v x * (weight (L x) t : EReal), sum_mul_coe _ _ (one_div_nonneg.mpr (mass_pos L z t).le)]
  exact Finset.sum_congr rfl fun x _ => by rw [hterm, mul_assoc]

end Cert.Softmax

end
-- ==== Proof.SwaClaim.lean ====
/- The windowed attention: what the kernel leaves is the reference's softmax over the band. -/
module

public import proofs.«01_k».proof.Defs
public import proofs.«01_k».proof.Proof.Gen.Pre_finite
public import proofs.«01_k».proof.Proof.Gen.KernelIdeal.Value
public import proofs.«01_k».proof.Proof.Gen.ReferenceIdeal.Run
public import proofs.«01_k».proof.Proof.Swa
public import proofs.«01_k».proof.Proof.SwaTable
public import proofs.«01_k».proof.Proof.SwaRefAt
public import proofs.«01_k».proof.Proof.Bucket
public import proofs.«01_k».proof.Proof.Softmax
public import proofs.«01_k».proof.Proof.Consts
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SwaClaim
open Cert.KernelIdeal Cert.KernelIdeal.Gen Cert.Band

/-- Whether query `r` of block `n` sees key `j` of its band. -/
def seen (n : Fin 32) (r : Fin 128) (j : Fin 256) : Prop := (r.val < j.val ∧ j.val ≤ r.val + 128) ∧ (0 < n.val ∨ 128 ≤ j.val)

theorem exists_word : ∀ n : Fin 32, ∀ j : Fin 256,
    IntOp.cmpi .sge (IntOp.subi (IntOp.addi (IntOp.muli (BitVec.ofNat 32 n.val) 128#32) (BitVec.ofNat 32 j.val)) 128#32) 0#32
      = BitVec.ofBool (decide (0 < n.val ∨ 128 ≤ j.val)) := by
  decide +kernel

theorem and_word (a b : Prop) [Decidable a] [Decidable b] :
    IntOp.andi (BitVec.ofBool (decide a)) (BitVec.ofBool (decide b)) = BitVec.ofBool (decide (a ∧ b)) := by
  by_cases ha : a <;> by_cases hb : b <;> simp [ha, hb, IntOp.andi]

theorem select_true {α : Type} (p : Prop) [Decidable p] (h : p) (x y : α) : Scalar.select (BitVec.ofBool (decide p)) x y = x := by
  rw [decide_eq_true h, Scalar.select]; exact if_pos rfl

theorem select_false {α : Type} (p : Prop) [Decidable p] (h : ¬ p) (x y : α) : Scalar.select (BitVec.ofBool (decide p)) x y = y := by
  rw [decide_eq_false h, Scalar.select]; exact if_neg (by decide)

theorem root_eq : root = (((Real.sqrt 128)⁻¹ * (Real.log 2)⁻¹ : ℝ) : EReal) := IdealRules.named_const.ideal_named_scalar _ _ _ _ rfl
theorem l2e_eq : l2e = (((Real.log 2)⁻¹ : ℝ) : EReal) := IdealRules.named_const.ideal_named_scalar _ _ _ _ rfl
theorem mask_eq : mask = (⊥ : EReal) := IdealRules.named_const.ideal_named_scalar _ _ _ _ rfl

theorem log_pos : 0 < (Real.log 2)⁻¹ := inv_pos.mpr (Real.log_pos (by norm_num))

/-- A finite product sum is finite. -/
theorem sum_real {n : ℕ} (f g : Fin n → EReal) (hf : ∀ i, ∃ x : ℝ, f i = x) (hg : ∀ i, ∃ x : ℝ, g i = x) : ∃ x : ℝ, (∑ i, f i * g i) = (x : EReal) := by
  choose a ha using hf
  choose b hb using hg
  refine ⟨∑ i, a i * b i, ?_⟩
  rw [Softmax.coe_sum]
  exact Finset.sum_congr rfl fun i _ => by rw [ha, hb, EReal.coe_mul]

/-- A score of the kernel is the logit in base two. -/
theorem score_real (x y : ℝ) : (x : EReal) * root + (y : EReal) * l2e
    = (((Real.log 2)⁻¹ : ℝ) : EReal) * ((x : EReal) * (((Real.sqrt 128)⁻¹ : ℝ) : EReal) + (y : EReal)) := by
  rw [root_eq, l2e_eq]
  simp only [← EReal.coe_mul, ← EReal.coe_add]
  congr 1
  ring

theorem score_masked (x : ℝ) : (x : EReal) * root + (⊥ : EReal) * l2e = (((Real.log 2)⁻¹ : ℝ) : EReal) * (⊥ : EReal) := by
  rw [l2e_eq, EReal.coe_mul_bot_of_pos log_pos, EReal.bot_mul_coe_of_pos log_pos, EReal.add_bot]

section Tables
variable (rb : FVec Ideal S32x16 .f32)

theorem hot_of (k0 : Fin 32) (r : Fin 128) (j : Fin 256) (h : SwaRef.bucket (ix2 r j) = BitVec.ofNat 32 k0.val) (k : Fin 32) :
    SwaTable.hot (ix3 k r j) = if k = k0 then (1 : EReal) else 0 := by
  rw [SwaTable.hot_at, SwaTable.bucket_same, h]
  by_cases e : k = k0
  · subst e
    rw [if_pos rfl]
    simp only [IntOp.cmpi, beq_self_eq_true, BitVec.ofBool_true]
    show (((1#1 : BitVec 1).toNat : ℝ) : EReal) = 1
    simp
  · rw [if_neg e]
    have hn : BitVec.ofNat 32 (k0 : ℕ) ≠ BitVec.ofNat 32 (k : ℕ) := by
      intro hh
      have := congrArg BitVec.toNat hh
      simp only [BitVec.toNat_ofNat] at this
      exact e (Fin.ext (by omega))
    simp only [IntOp.cmpi, beq_false_of_ne hn, BitVec.ofBool_false]
    show (((0#1 : BitVec 1).toNat : ℝ) : EReal) = 0
    simp

theorem table_in (b h g : Fin 4) (n : Fin 32) (r : Fin 128) (j : Fin 256) (hb : r.val < j.val ∧ j.val ≤ r.val + 128) :
    SwaTable.table rb (ix3 ⟨h.val * 4 + g.val, by omega⟩ r j) = SwaRef.bias rb (ix6 b h g n r j) := by
  obtain ⟨k0, hk⟩ := SwaRef.bucket_range r j hb
  rw [SwaTable.table_at, SwaTable.inBand_same, SwaRef.inBand_eq, select_true _ hb, SwaRef.bias_at]
  simp only [hot_of k0 r j hk]
  rw [Finset.sum_eq_single k0 (fun k _ e => by rw [if_neg e, mul_zero]) (fun e => absurd (Finset.mem_univ _) e), if_pos rfl, mul_one]
  refine congrArg (fun k => rb (ix2 k ⟨h.val * 4 + g.val, by omega⟩)) (Fin.ext ?_)
  have := SwaRef.row_word k0
  rw [← hk, ← SwaRef.row_at] at this
  exact this.symm

theorem table_out (h : Fin 16) (r : Fin 128) (j : Fin 256) (hb : ¬ (r.val < j.val ∧ j.val ≤ r.val + 128)) : SwaTable.table rb (ix3 h r j) = ⊥ := by
  rw [SwaTable.table_at, SwaTable.inBand_same, SwaRef.inBand_eq, select_false _ hb, Consts.cLow]

end Tables

section Row
variable (q : FVec Ideal S4x4096x2048 .f32) (kv : FVec Ideal S4x4096x1024 .f32) (rb : FVec Ideal S32x16 .f32) (sk : FVec Ideal S2x16 .f32)

theorem logit_in (b h g : Fin 4) (n : Fin 32) (r : Fin 128) (j : Fin 256) (hs : seen n r j) :
    SwaRef.logits q kv rb (ix6 b h g n r j) = (SwaRef.scores q kv (ix6 b h g n r j) : EReal) * (((Real.sqrt 128)⁻¹ : ℝ) : EReal) + SwaRef.bias rb (ix6 b h g n r j) := by
  rw [SwaRef.logits_at, SwaRef.inBand_eq, exists_word, and_word, select_true (_ ∧ _) hs, Consts.root]

theorem logit_out (b h g : Fin 4) (n : Fin 32) (r : Fin 128) (j : Fin 256) (hs : ¬ seen n r j) :
    SwaRef.logits q kv rb (ix6 b h g n r j) = ⊥ := by
  rw [SwaRef.logits_at, SwaRef.inBand_eq, exists_word, and_word, select_false (_ ∧ _) hs, Consts.cLow]

theorem key_prev (b : Fin 4) (n : Fin 32) (j : Fin 128) (h : Fin 4) (d : Fin 128) (hn : 0 < n.val) :
    SwaRef.keys kv (ix5 b n ⟨j.val, by omega⟩ h d) = kv (ix3 b ⟨(n.val - 1) * 128 + j.val, by omega⟩ ⟨128 * h.val + d.val, by omega⟩) := by
  rw [SwaRef.keys_at, dif_pos (show (⟨j.val, by omega⟩ : Fin 256).val < 128 from j.isLt), dif_neg (show ¬ n.val < 1 by omega)]
  exact congrArg (fun e => kv (ix3 b ⟨(n.val - 1) * 128 + j.val, by omega⟩ e)) (Fin.ext (by simp only; omega))

theorem key_own (b : Fin 4) (n : Fin 32) (j : Fin 128) (h : Fin 4) (d : Fin 128) :
    SwaRef.keys kv (ix5 b n ⟨128 + j.val, by omega⟩ h d) = kv (ix3 b ⟨n.val * 128 + j.val, by omega⟩ ⟨128 * h.val + d.val, by omega⟩) := by
  rw [SwaRef.keys_at, dif_neg (show ¬ (⟨128 + j.val, by omega⟩ : Fin 256).val < 128 by simp only; omega)]
  exact congrArg₂ (fun s e => kv (ix3 b s e)) (Fin.ext (by simp only; omega)) (Fin.ext (by simp only; omega))

theorem value_prev (b : Fin 4) (n : Fin 32) (j : Fin 128) (h : Fin 4) (d : Fin 128) (hn : 0 < n.val) :
    SwaRef.vals kv (ix5 b n ⟨j.val, by omega⟩ h d) = kv (ix3 b ⟨(n.val - 1) * 128 + j.val, by omega⟩ ⟨512 + 128 * h.val + d.val, by omega⟩) := by
  rw [SwaRef.vals_at, dif_pos (show (⟨j.val, by omega⟩ : Fin 256).val < 128 from j.isLt), dif_neg (show ¬ n.val < 1 by omega)]
  exact congrArg (fun e => kv (ix3 b ⟨(n.val - 1) * 128 + j.val, by omega⟩ e)) (Fin.ext (by simp only; omega))

theorem value_own (b : Fin 4) (n : Fin 32) (j : Fin 128) (h : Fin 4) (d : Fin 128) :
    SwaRef.vals kv (ix5 b n ⟨128 + j.val, by omega⟩ h d) = kv (ix3 b ⟨n.val * 128 + j.val, by omega⟩ ⟨512 + 128 * h.val + d.val, by omega⟩) := by
  rw [SwaRef.vals_at, dif_neg (show ¬ (⟨128 + j.val, by omega⟩ : Fin 256).val < 128 by simp only; omega)]
  exact congrArg₂ (fun s e => kv (ix3 b s e)) (Fin.ext (by simp only; omega)) (Fin.ext (by simp only; omega))

/-- What the precondition says of the four arrays. -/
structure Fin4 : Prop where
  q : ∀ i, ∃ x : ℝ, q i = x
  k : ∀ (b : Fin 4) (s : Fin 4096) (e : Fin 1024), e.val < 512 → ∃ x : ℝ, kv (ix3 b s e) = x
  b : ∀ i, ∃ x : ℝ, rb i = x
  s : ∀ i, ∃ x : ℝ, sk i = x

variable {q kv rb sk}

theorem key_real (F : Fin4 q kv rb sk) (b : Fin 4) (n : Fin 32) (j : Fin 256) (h : Fin 4) (d : Fin 128) :
    ∃ x : ℝ, SwaRef.keys kv (ix5 b n j h d) = x := by
  rw [SwaRef.keys_at]
  split
  · split
    · exact ⟨0, by simp⟩
    · exact F.k _ _ _ (by simp only; omega)
  · exact F.k _ _ _ (by simp only; omega)

theorem score_fin (F : Fin4 q kv rb sk) (b h g : Fin 4) (n : Fin 32) (r : Fin 128) (j : Fin 256) :
    ∃ x : ℝ, SwaRef.scores q kv (ix6 b h g n r j) = (x : EReal) := by
  rw [SwaRef.scores_at]
  exact sum_real _ _ (fun x => key_real F b n j h x) (fun x => F.q _)

theorem bias_fin (F : Fin4 q kv rb sk) (b h g : Fin 4) (n : Fin 32) (r : Fin 128) (j : Fin 256) :
    ∃ x : ℝ, SwaRef.bias rb (ix6 b h g n r j) = (x : EReal) := by
  rw [SwaRef.bias_at]
  exact F.b _

theorem logit_top (F : Fin4 q kv rb sk) (b h g : Fin 4) (n : Fin 32) (r : Fin 128) (j : Fin 256) :
    SwaRef.logits q kv rb (ix6 b h g n r j) ≠ ⊤ := by
  by_cases hs : seen n r j
  · obtain ⟨x, hx⟩ := score_fin F b h g n r j
    obtain ⟨y, hy⟩ := bias_fin F b h g n r j
    rw [logit_in q kv rb b h g n r j hs, hx, hy, ← EReal.coe_mul, ← EReal.coe_add]
    exact EReal.coe_ne_top _
  · rw [logit_out q kv rb b h g n r j hs]
    exact bot_ne_top

/-- A score of the kernel, from the product sum and the table, against the logit: the key is not hidden by being
    before the sequence. -/
theorem score_eq (F : Fin4 q kv rb sk) (b h g : Fin 4) (n : Fin 32) (r : Fin 128) (j : Fin 256) (hn : 0 < n.val ∨ 128 ≤ j.val)
    (P : EReal) (hP : P = SwaRef.scores q kv (ix6 b h g n r j)) :
    P * root + SwaTable.table rb (ix3 ⟨h.val * 4 + g.val, by omega⟩ r j) * l2e
      = (((Real.log 2)⁻¹ : ℝ) : EReal) * SwaRef.logits q kv rb (ix6 b h g n r j) := by
  obtain ⟨x, hx⟩ := score_fin F b h g n r j
  rw [hP, hx]
  by_cases hb : r.val < j.val ∧ j.val ≤ r.val + 128
  · obtain ⟨y, hy⟩ := bias_fin F b h g n r j
    rw [table_in rb b h g n r j hb, logit_in q kv rb b h g n r j ⟨hb, hn⟩, hx, hy, score_real]
  · rw [table_out rb _ r j hb, logit_out q kv rb b h g n r j fun hs => hb hs.1, score_masked]

/-- The reference's element as a softmax over one row of logits. -/
theorem ref_at (b : Fin 4) (s : Fin 4096) (l : Fin 2048) (z : EReal)
    (L : Fin 256 → EReal) (hL : L = fun j => SwaRef.logits q kv rb (ix6 b ⟨l.val / 512, by omega⟩ ⟨l.val / 128 % 4, by omega⟩ ⟨s.val / 128, by omega⟩ ⟨s.val % 128, by omega⟩ j))
    (hz : z = sk (ix2 1 ⟨l.val / 512 * 4 + l.val / 128 % 4, by omega⟩)) :
    SwaRef.result q kv rb sk (ix3 b s l)
      = ∑ x : Fin 256, (SwaRef.vals kv (ix5 b ⟨s.val / 128, by omega⟩ x ⟨l.val / 512, by omega⟩ ⟨l.val % 128, by omega⟩) : EReal)
        * Ideal.div (Ideal.exp (L x - Finset.univ.fold max ⊥ fun k : Fin 257 => if h : k.val < 256 then L ⟨k.val, h⟩ else z))
          (∑ k : Fin 257, Ideal.exp ((if h : k.val < 256 then L ⟨k.val, h⟩ else z)
            - Finset.univ.fold max ⊥ fun k : Fin 257 => if h : k.val < 256 then L ⟨k.val, h⟩ else z)) := by
  have hF : ∀ k : Fin 257, SwaRef.full q kv rb sk (ix6 b ⟨l.val / 512, by omega⟩ ⟨l.val / 128 % 4, by omega⟩ ⟨s.val / 128, by omega⟩ ⟨s.val % 128, by omega⟩ k)
      = if h : k.val < 256 then L ⟨k.val, h⟩ else z := fun k => by
    rw [SwaRef.full_at, hL, hz]
  have hT : SwaRef.top q kv rb sk (ix5 b ⟨l.val / 512, by omega⟩ ⟨l.val / 128 % 4, by omega⟩ ⟨s.val / 128, by omega⟩ ⟨s.val % 128, by omega⟩)
      = Finset.univ.fold max ⊥ fun k : Fin 257 => if h : k.val < 256 then L ⟨k.val, h⟩ else z := by
    rw [SwaRef.top_at, SwaRef.peak_at, Consts.cLow, show (constant (F := Ideal) S_ .f32 0xFF800000#32 (Shape.Idx.first Cert.ReferenceIdeal.Gen.h_S_) : EReal) = ⊥ from Consts.cLow]
    simp only [hF]
    exact max_eq_right bot_le
  have hE : ∀ k : Fin 257, SwaRef.exps q kv rb sk (ix6 b ⟨l.val / 512, by omega⟩ ⟨l.val / 128 % 4, by omega⟩ ⟨s.val / 128, by omega⟩ ⟨s.val % 128, by omega⟩ k)
      = Ideal.exp ((if h : k.val < 256 then L ⟨k.val, h⟩ else z) - Finset.univ.fold max ⊥ fun k : Fin 257 => if h : k.val < 256 then L ⟨k.val, h⟩ else z) := fun k => by
    rw [SwaRef.exps_at, hF, hT]
  have hD : SwaRef.total q kv rb sk (ix5 b ⟨l.val / 512, by omega⟩ ⟨l.val / 128 % 4, by omega⟩ ⟨s.val / 128, by omega⟩ ⟨s.val % 128, by omega⟩)
      = ∑ k : Fin 257, Ideal.exp ((if h : k.val < 256 then L ⟨k.val, h⟩ else z) - Finset.univ.fold max ⊥ fun k : Fin 257 => if h : k.val < 256 then L ⟨k.val, h⟩ else z) := by
    rw [SwaRef.total_at, Consts.c0]
    simp only [hE]
    simp
  rw [SwaRef.result_at]
  refine Finset.sum_congr rfl fun x _ => congrArg _ ?_
  rw [SwaRef.probs_at, hE, hD, dif_pos (show (⟨x.val, by omega⟩ : Fin 257).val < 256 from x.isLt)]

/-- One element of the kernel's result is the reference's. -/
theorem val_eq (F : Fin4 q kv rb sk) (b : Fin 4) (s : Fin 4096) (l : Fin 2048) :
    Swa.val q kv (SwaTable.laid rb) (SwaTable.sinks sk) b s l = SwaRef.result q kv rb sk (ix3 b s l) := by
  obtain ⟨z, hz⟩ := F.s (ix2 1 ⟨l.val / 512 * 4 + l.val / 128 % 4, by omega⟩)
  rw [ref_at b s l z _ rfl hz.symm]
  refine Eq.trans ?_ (Softmax.mix_eq (fun j => SwaRef.logits q kv rb (ix6 b ⟨l.val / 512, by omega⟩ ⟨l.val / 128 % 4, by omega⟩ ⟨s.val / 128, by omega⟩ ⟨s.val % 128, by omega⟩ j))
    (fun j => if hj : j.val < 128 then kv (ix3 b ⟨(s.val / 128 - 1) * 128 + j.val, by omega⟩ ⟨512 + 128 * (l.val / 512) + l.val % 128, by omega⟩)
      else kv (ix3 b ⟨s.val / 128 * 128 + (j.val - 128), by omega⟩ ⟨512 + 128 * (l.val / 512) + l.val % 128, by omega⟩)) _ z (fun j => logit_top F _ _ _ _ _ _) ?_)
  · have e0 : ∀ j : Fin 128, before (BitVec.ofBool (decide (0 < s.val / 128)))
        (fun j e => kv (ix3 b ⟨(s.val / 128 - 1) * 128 + j, by omega⟩ ⟨128 * (l.val / 512) + e, by omega⟩))
        (fun e => q (ix3 b s ⟨128 * (l.val / 128) + e, by omega⟩))
        (fun j => SwaTable.laid rb (ix3 ⟨l.val / 512, by omega⟩ ⟨j, by omega⟩ ⟨128 * (l.val / 128 % 4) + s.val % 128, by omega⟩)) j
        = (((Real.log 2)⁻¹ : ℝ) : EReal) * SwaRef.logits q kv rb (ix6 b ⟨l.val / 512, by omega⟩ ⟨l.val / 128 % 4, by omega⟩ ⟨s.val / 128, by omega⟩ ⟨s.val % 128, by omega⟩ ⟨j.val, by omega⟩) := by
      intro j
      rw [before]
      by_cases hn : 0 < s.val / 128
      · rw [select_true _ hn]
        have hl := SwaTable.laid_at rb ⟨l.val / 512, by omega⟩ ⟨l.val / 128 % 4, by omega⟩ ⟨s.val % 128, by omega⟩ ⟨j.val, by omega⟩
        refine Eq.trans (congrArg (fun w => _ + w * l2e) hl) ?_
        refine score_eq F b ⟨l.val / 512, by omega⟩ ⟨l.val / 128 % 4, by omega⟩ ⟨s.val / 128, by omega⟩ ⟨s.val % 128, by omega⟩ ⟨j.val, by omega⟩ (Or.inl hn) _ ?_
        rw [SwaRef.scores_at]
        refine Finset.sum_congr rfl fun e _ => congrArg₂ (· * ·) ?_ ?_
        · exact (key_prev kv b ⟨s.val / 128, by omega⟩ j ⟨l.val / 512, by omega⟩ e hn).symm
        · exact congrArg₂ (fun x y => q (ix3 b x y)) (Fin.ext (by simp only; omega)) (Fin.ext (by simp only; omega))
      · rw [select_false _ hn, mask_eq, logit_out q kv rb, EReal.coe_mul_bot_of_pos log_pos]
        rintro ⟨_, h1 | h1⟩
        · exact hn h1
        · exact absurd j.isLt (not_lt.mpr h1)
    have e1 : ∀ j : Fin 128, own
        (fun j e => kv (ix3 b ⟨s.val / 128 * 128 + j, by omega⟩ ⟨128 * (l.val / 512) + e, by omega⟩))
        (fun e => q (ix3 b s ⟨128 * (l.val / 128) + e, by omega⟩))
        (fun j => SwaTable.laid rb (ix3 ⟨l.val / 512, by omega⟩ ⟨128 + j, by omega⟩ ⟨128 * (l.val / 128 % 4) + s.val % 128, by omega⟩)) j
        = (((Real.log 2)⁻¹ : ℝ) : EReal) * SwaRef.logits q kv rb (ix6 b ⟨l.val / 512, by omega⟩ ⟨l.val / 128 % 4, by omega⟩ ⟨s.val / 128, by omega⟩ ⟨s.val % 128, by omega⟩ ⟨128 + j.val, by omega⟩) := by
      intro j
      rw [own]
      have hl := SwaTable.laid_at rb ⟨l.val / 512, by omega⟩ ⟨l.val / 128 % 4, by omega⟩ ⟨s.val % 128, by omega⟩ ⟨128 + j.val, by omega⟩
      refine Eq.trans (congrArg (fun w => _ + w * l2e) hl) ?_
      refine score_eq F b ⟨l.val / 512, by omega⟩ ⟨l.val / 128 % 4, by omega⟩ ⟨s.val / 128, by omega⟩ ⟨s.val % 128, by omega⟩ ⟨128 + j.val, by omega⟩
        (Or.inr (by simp only; omega)) _ ?_
      rw [SwaRef.scores_at]
      refine Finset.sum_congr rfl fun e _ => congrArg₂ (· * ·) ?_ ?_
      · exact (key_own kv b ⟨s.val / 128, by omega⟩ j ⟨l.val / 512, by omega⟩ e).symm
      · exact congrArg₂ (fun x y => q (ix3 b x y)) (Fin.ext (by simp only; omega)) (Fin.ext (by simp only; omega))
    have e2 : (fun j : Fin 128 => (if hj : (⟨j.val, by omega⟩ : Fin 256).val < 128 then kv (ix3 b ⟨(s.val / 128 - 1) * 128 + j.val, by omega⟩ ⟨512 + 128 * (l.val / 512) + l.val % 128, by omega⟩)
        else kv (ix3 b ⟨s.val / 128 * 128 + (j.val - 128), by omega⟩ ⟨512 + 128 * (l.val / 512) + l.val % 128, by omega⟩) : EReal))
        = fun j : Fin 128 => kv (ix3 b ⟨(s.val / 128 - 1) * 128 + j, by omega⟩ ⟨512 + 128 * (l.val / 512) + l.val % 128, by omega⟩) :=
      funext fun j => dif_pos (show (⟨j.val, by omega⟩ : Fin 256).val < 128 from j.isLt)
    have e3 : (fun j : Fin 128 => (if hj : (⟨128 + j.val, by omega⟩ : Fin 256).val < 128 then kv (ix3 b ⟨(s.val / 128 - 1) * 128 + (128 + j.val), by omega⟩ ⟨512 + 128 * (l.val / 512) + l.val % 128, by omega⟩)
        else kv (ix3 b ⟨s.val / 128 * 128 + (128 + j.val - 128), by omega⟩ ⟨512 + 128 * (l.val / 512) + l.val % 128, by omega⟩) : EReal))
        = fun j : Fin 128 => kv (ix3 b ⟨s.val / 128 * 128 + j, by omega⟩ ⟨512 + 128 * (l.val / 512) + l.val % 128, by omega⟩) :=
      funext fun j => (dif_neg (show ¬ (⟨128 + j.val, by omega⟩ : Fin 256).val < 128 by simp only; omega)).trans
        (congrArg (fun x => kv (ix3 b x ⟨512 + 128 * (l.val / 512) + l.val % 128, by omega⟩)) (Fin.ext (by simp only; omega)))
    have e4 : SwaTable.sinks sk (ix3 ⟨l.val / 512, by omega⟩ 0 ⟨128 * (l.val / 128 % 4) + s.val % 128, by omega⟩) = (z : EReal) :=
      (SwaTable.sinks_at sk ⟨l.val / 512, by omega⟩ ⟨l.val / 128 % 4, by omega⟩ ⟨s.val % 128, by omega⟩).trans hz
    rw [Swa.val, funext e0, funext e1, e2, e3, e4, l2e_eq]
  · intro j hj
    have hs : seen ⟨s.val / 128, by omega⟩ ⟨s.val % 128, by omega⟩ j := by
      by_contra hs
      exact hj (logit_out q kv rb b _ _ _ _ j hs)
    by_cases h : j.val < 128
    · rw [dif_pos h]
      refine (value_prev kv b ⟨s.val / 128, by omega⟩ ⟨j.val, h⟩ ⟨l.val / 512, by omega⟩ ⟨l.val % 128, by omega⟩ ?_).symm
      rcases hs.2 with h1 | h1
      · exact h1
      · omega
    · rw [dif_neg h]
      have hv := value_own kv b ⟨s.val / 128, by omega⟩ ⟨j.val - 128, by omega⟩ ⟨l.val / 512, by omega⟩ ⟨l.val % 128, by omega⟩
      refine hv.symm.trans (congrArg (fun x => SwaRef.vals kv (ix5 b ⟨s.val / 128, by omega⟩ x ⟨l.val / 512, by omega⟩ ⟨l.val % 128, by omega⟩)) (Fin.ext (by simp only; omega)))

end Row

/-- A number whose size is below infinity is finite. -/
theorem real_of_lt (x : EReal) (h : FloatOps.cmpf (F := Ideal) (φ := .f32) .olt (FloatOps.absf x) (Ideal.ofBits .f32 0x7F800000#32) = 1#1) : ∃ r : ℝ, x = r := by
  have hi : Ideal.ofBits .f32 0x7F800000#32 = (⊤ : EReal) := by simp [Ideal.ofBits, Ideal.ieee]
  rw [hi] at h
  induction x with
  | bot => exact absurd h (by show ¬ BitVec.ofBool (decide (max (⊥ : EReal) (-⊥) < ⊤)) = 1#1; simp)
  | coe r => exact ⟨r, rfl⟩
  | top => exact absurd h (by show ¬ BitVec.ofBool (decide (max (⊤ : EReal) (-⊤) < ⊤)) = 1#1; simp)

theorem fin4 (m : (ℓ : Loc nD τ sig) → Buf (Elt Ideal) ℓ) (hpre : Cert.Pre_KernelIdeal_finite m) (c : Dev nD) :
    Fin4 (m ((c : Thread nD τ).loc main_arg0)) (m ((c : Thread nD τ).loc main_arg1)) (m ((c : Thread nD τ).loc main_arg2)) (m ((c : Thread nD τ).loc main_arg3)) := by
  obtain ⟨h0, h1, h2, h3⟩ := hpre c
  refine ⟨fun i => real_of_lt _ (congrFun h0 i), fun b s e he => ?_, fun i => real_of_lt _ (congrFun h2 i), fun i => real_of_lt _ (congrFun h3 i)⟩
  refine real_of_lt _ (Eq.trans (congrArg (fun x => FloatOps.cmpf (F := Ideal) (φ := .f32) .olt (FloatOps.absf x) (Ideal.ofBits .f32 0x7F800000#32)) ?_) (congrFun h1 (ix3 b s ⟨e.val, he⟩)))
  pointwise []

theorem final (m : (ℓ : Loc nD τ sig) → Buf (Elt Ideal) ℓ) (hpre : Cert.Pre_KernelIdeal_finite m) (c : Dev nD) :
    SwaRef.result (m ((c : Thread nD τ).loc main_arg0)) (m ((c : Thread nD τ).loc main_arg1)) (m ((c : Thread nD τ).loc main_arg2)) (m ((c : Thread nD τ).loc main_arg3))
      = (dats m 0 c).arrAt 5 (cfgs 0).N := by
  rw [Swa.final m c, SwaTable.laid_eq, SwaTable.sinks_eq]
  funext j
  rw [eq_ix3 j]
  exact (val_eq (fin4 m hpre c) _ _ _).symm

set_option maxHeartbeats 2000000 in
theorem algebraic : Cert.algebraic_KernelIdeal_ReferenceIdeal_pre_finite := by
  pair_intro
  · run_from Cert.KernelIdeal.Value.run_blocks m g
  · run_from Cert.ReferenceIdeal.Value.run m' g'
    obtain ⟨h0, h1, h2, h3⟩ := hagree c
    refine (SwaRef.result_eq m' c).trans (Eq.trans ?_ (final m hpre c))
    rw [h0, h1, h2, h3]

end Cert.SwaClaim

end
-- ==== Proof.FfnOps.lean ====
/- The blocks of a grid step of the feed-forward kernel, read from the arguments. -/
module

public import proofs.«01_k».proof.Proof.Gen.Kernel2Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnOps
open Cert.Kernel2Ideal Cert.Kernel2Ideal.Gen

theorem zero (φ : FTy) : (FloatOps.sitofp φ 0#32 : Ideal φ) = (0 : EReal) := by
  show (((0#32 : BitVec 32).toInt : ℝ) : EReal) = 0
  simp

theorem idx : ∀ t : Fin cfg0.N, win0_0.index t = ![t.val / 6, 0] ∧ win0_1.index t = ![64 * (t.val / 6) - 1, 0] ∧ win0_2.index t = ![3, 0, t.val % 6]
    ∧ win0_3.index t = ![3, 0, t.val % 6] ∧ win0_4.index t = ![3, 0, t.val % 6] ∧ win0_5.index t = ![3, 0, t.val % 6] ∧ win0_6.index t = ![3, 0, t.val % 6]
    ∧ win0_7.index t = ![3, 0, t.val % 6] ∧ win0_8.index t = ![3, t.val % 6, 0] ∧ win0_9.index t = ![0, 0] ∧ win0_10.index t = ![0, 0] ∧ win0_11.index t = ![t.val / 6, 0] :=
  (by decide +kernel : ∀ t : Fin grid0.N, _)

variable (m : (ℓ : Loc nD τ sig) → Buf (Elt Ideal) ℓ)

theorem V_rows (c : Dev nD) : (show FVec Ideal S16384x2048 .f32 from V m c main_v0) =
    shapeCast S16384x2048 (show FVec Ideal S4x4096x2048 .f32 from m ((c.tc : Thread nD τ).loc main_arg0)) shapeCasts_S4x4096x2048_S16384x2048 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.TRef.binary, StableHlo.TRef.unary, StableHlo.TRef.toBuf, StableHlo.TRef.ofBuf, cast_eq]
  after_results_simp
  rfl

theorem V_gate (c : Dev nD) : (show FVec Ideal S4x2048x6144 .bf16 from V m c main_v4) =
    pad S4x2048x6144 ![0, 0, 0] ![0, 0, 640] ![0, 0, 0] (truncf .bf16 (extractStridedSlice S4x2048x5504 ![0, 0, 0] (show FVec Ideal S4x2048x11008 .f32 from m ((c.tc : Thread nD τ).loc main_arg1)) slices_S4x2048x11008_S4x2048x5504_0_0_0) bitsLt_bf16_f32) (sitofp (F := Ideal) .bf16 (constantI S_ 32 0#32)) pads_S4x2048x5504_S4x2048x6144_000_000_06400 h_S_ := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.TRef.binary, StableHlo.TRef.unary, StableHlo.TRef.toBuf, StableHlo.TRef.ofBuf, cast_eq]
  after_results_simp

theorem V_value (c : Dev nD) : (show FVec Ideal S4x2048x6144 .bf16 from V m c main_v6) =
    pad S4x2048x6144 ![0, 0, 0] ![0, 0, 640] ![0, 0, 0] (truncf .bf16 (extractStridedSlice S4x2048x5504 ![0, 0, 5504] (show FVec Ideal S4x2048x11008 .f32 from m ((c.tc : Thread nD τ).loc main_arg1)) slices_S4x2048x11008_S4x2048x5504_0_0_5504) bitsLt_bf16_f32) (sitofp (F := Ideal) .bf16 (constantI S_ 32 0#32)) pads_S4x2048x5504_S4x2048x6144_000_000_06400 h_S_ := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.TRef.binary, StableHlo.TRef.unary, StableHlo.TRef.toBuf, StableHlo.TRef.ofBuf, cast_eq]
  after_results_simp

theorem V_gtap (c : Dev nD) : (show FVec Ideal S4x3x6144 .f32 from V m c main_v9) =
    pad S4x3x6144 ![0, 0, 0] ![0, 0, 640] ![0, 0, 0] (extractStridedSlice S4x3x5504 ![0, 0, 0] (show FVec Ideal S4x3x11008 .f32 from m ((c.tc : Thread nD τ).loc main_arg2)) slices_S4x3x11008_S4x3x5504_0_0_0) (sitofp (F := Ideal) .f32 (constantI S_ 32 0#32)) pads_S4x3x5504_S4x3x6144_000_000_06400 h_S_ := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.TRef.binary, StableHlo.TRef.unary, StableHlo.TRef.toBuf, StableHlo.TRef.ofBuf, cast_eq]
  after_results_simp

theorem V_vtap (c : Dev nD) : (show FVec Ideal S4x3x6144 .f32 from V m c main_v10) =
    pad S4x3x6144 ![0, 0, 0] ![0, 0, 640] ![0, 0, 0] (extractStridedSlice S4x3x5504 ![0, 0, 5504] (show FVec Ideal S4x3x11008 .f32 from m ((c.tc : Thread nD τ).loc main_arg2)) slices_S4x3x11008_S4x3x5504_0_0_5504) (sitofp (F := Ideal) .f32 (constantI S_ 32 0#32)) pads_S4x3x5504_S4x3x6144_000_000_06400 h_S_ := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.TRef.binary, StableHlo.TRef.unary, StableHlo.TRef.toBuf, StableHlo.TRef.ofBuf, cast_eq]
  after_results_simp

theorem V_goff (c : Dev nD) : (show FVec Ideal S4x1x6144 .f32 from V m c main_v14) =
    pad S4x1x6144 ![0, 0, 0] ![0, 0, 640] ![0, 0, 0] (extractStridedSlice S4x1x5504 ![0, 0, 0] (broadcastInDim S4x1x11008 ![0, 2] bcast_S4x11008_S4x1x11008_0_2 (show FVec Ideal S4x11008 .f32 from m ((c.tc : Thread nD τ).loc main_arg3))) slices_S4x1x11008_S4x1x5504_0_0_0) (sitofp (F := Ideal) .f32 (constantI S_ 32 0#32)) pads_S4x1x5504_S4x1x6144_000_000_06400 h_S_ := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.TRef.binary, StableHlo.TRef.unary, StableHlo.TRef.toBuf, StableHlo.TRef.ofBuf, cast_eq]
  after_results_simp

theorem V_voff (c : Dev nD) : (show FVec Ideal S4x1x6144 .f32 from V m c main_v15) =
    pad S4x1x6144 ![0, 0, 0] ![0, 0, 640] ![0, 0, 0] (extractStridedSlice S4x1x5504 ![0, 0, 5504] (broadcastInDim S4x1x11008 ![0, 2] bcast_S4x11008_S4x1x11008_0_2 (show FVec Ideal S4x11008 .f32 from m ((c.tc : Thread nD τ).loc main_arg3))) slices_S4x1x11008_S4x1x5504_0_0_5504) (sitofp (F := Ideal) .f32 (constantI S_ 32 0#32)) pads_S4x1x5504_S4x1x6144_000_000_06400 h_S_ := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.TRef.binary, StableHlo.TRef.unary, StableHlo.TRef.toBuf, StableHlo.TRef.ofBuf, cast_eq]
  after_results_simp

theorem V_down (c : Dev nD) : (show FVec Ideal S4x6144x2048 .bf16 from V m c main_v17) =
    pad S4x6144x2048 ![0, 0, 0] ![0, 640, 0] ![0, 0, 0] (truncf .bf16 (show FVec Ideal S4x5504x2048 .f32 from m ((c.tc : Thread nD τ).loc main_arg4)) bitsLt_bf16_f32) (sitofp (F := Ideal) .bf16 (constantI S_ 32 0#32)) pads_S4x5504x2048_S4x6144x2048_000_06400_000 h_S_ := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.TRef.binary, StableHlo.TRef.unary, StableHlo.TRef.toBuf, StableHlo.TRef.ofBuf, cast_eq]
  after_results_simp

theorem V_gain (c : Dev nD) : (show FVec Ideal S1x2048 .f32 from V m c main_v20) =
    broadcastInDim S1x2048 ![1] bcast_S2048_S1x2048_1 (shapeCast S2048 (extractStridedSlice S1x1x2048 ![3, 1, 0] (show FVec Ideal S4x2x2048 .f32 from m ((c.tc : Thread nD τ).loc main_arg5)) slices_S4x2x2048_S1x1x2048_3_1_0) shapeCasts_S1x1x2048_S2048) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.TRef.binary, StableHlo.TRef.unary, StableHlo.TRef.toBuf, StableHlo.TRef.ofBuf, cast_eq]
  after_results_simp
  rfl

theorem V_offset (c : Dev nD) : (show FVec Ideal S1x2048 .f32 from V m c main_v23) =
    broadcastInDim S1x2048 ![1] bcast_S2048_S1x2048_1 (shapeCast S2048 (extractStridedSlice S1x1x2048 ![3, 1, 0] (show FVec Ideal S4x2x2048 .f32 from m ((c.tc : Thread nD τ).loc main_arg6)) slices_S4x2x2048_S1x1x2048_3_1_0) shapeCasts_S1x1x2048_S2048) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.TRef.binary, StableHlo.TRef.unary, StableHlo.TRef.toBuf, StableHlo.TRef.ofBuf, cast_eq]
  after_results_simp
  rfl

theorem gate (c : Dev nD) (t : Fin cfg0.N) (k : Fin 2048) (e : Fin 1024) (h : t.val % 6 * 1024 + e.val < 5504) :
    (show FVec Ideal S1x2048x1024 .bf16 from iblk m c 2 t) (ix3 0 k e) = (show FVec Ideal S4x2048x11008 .f32 from m ((c.tc : Thread nD τ).loc main_arg1)) (ix3 3 k ⟨t.val % 6 * 1024 + e.val, by omega⟩) := by
  refine Eq.trans (show _ = (show FVec Ideal S4x2048x6144 .bf16 from V m c main_v4) (ix3 3 k ⟨t.val % 6 * 1024 + e.val, by omega⟩) from ?_) ?_
  · blk_point [iblk, idx t]
  · rw [V_gate]
    pointwise [h]

theorem value (c : Dev nD) (t : Fin cfg0.N) (k : Fin 2048) (e : Fin 1024) (h : t.val % 6 * 1024 + e.val < 5504) :
    (show FVec Ideal S1x2048x1024 .bf16 from iblk m c 3 t) (ix3 0 k e) = (show FVec Ideal S4x2048x11008 .f32 from m ((c.tc : Thread nD τ).loc main_arg1)) (ix3 3 k ⟨5504 + (t.val % 6 * 1024 + e.val), by omega⟩) := by
  refine Eq.trans (show _ = (show FVec Ideal S4x2048x6144 .bf16 from V m c main_v6) (ix3 3 k ⟨t.val % 6 * 1024 + e.val, by omega⟩) from ?_) ?_
  · blk_point [iblk, idx t]
  · rw [V_value]
    pointwise [h]

theorem gtap (c : Dev nD) (t : Fin cfg0.N) (k : Fin 3) (e : Fin 1024) (h : t.val % 6 * 1024 + e.val < 5504) :
    (show FVec Ideal S1x3x1024 .f32 from iblk m c 4 t) (ix3 0 k e) = (show FVec Ideal S4x3x11008 .f32 from m ((c.tc : Thread nD τ).loc main_arg2)) (ix3 3 k ⟨t.val % 6 * 1024 + e.val, by omega⟩) := by
  refine Eq.trans (show _ = (show FVec Ideal S4x3x6144 .f32 from V m c main_v9) (ix3 3 k ⟨t.val % 6 * 1024 + e.val, by omega⟩) from ?_) ?_
  · blk_point [iblk, idx t]
  · rw [V_gtap]
    pointwise [h]

theorem vtap (c : Dev nD) (t : Fin cfg0.N) (k : Fin 3) (e : Fin 1024) (h : t.val % 6 * 1024 + e.val < 5504) :
    (show FVec Ideal S1x3x1024 .f32 from iblk m c 5 t) (ix3 0 k e) = (show FVec Ideal S4x3x11008 .f32 from m ((c.tc : Thread nD τ).loc main_arg2)) (ix3 3 k ⟨5504 + (t.val % 6 * 1024 + e.val), by omega⟩) := by
  refine Eq.trans (show _ = (show FVec Ideal S4x3x6144 .f32 from V m c main_v10) (ix3 3 k ⟨t.val % 6 * 1024 + e.val, by omega⟩) from ?_) ?_
  · blk_point [iblk, idx t]
  · rw [V_vtap]
    pointwise [h]

theorem goff (c : Dev nD) (t : Fin cfg0.N) (e : Fin 1024) (h : t.val % 6 * 1024 + e.val < 5504) :
    (show FVec Ideal S1x1x1024 .f32 from iblk m c 6 t) (ix3 0 0 e) = (show FVec Ideal S4x11008 .f32 from m ((c.tc : Thread nD τ).loc main_arg3)) (ix2 3 ⟨t.val % 6 * 1024 + e.val, by omega⟩) := by
  refine Eq.trans (show _ = (show FVec Ideal S4x1x6144 .f32 from V m c main_v14) (ix3 3 0 ⟨t.val % 6 * 1024 + e.val, by omega⟩) from ?_) ?_
  · blk_point [iblk, idx t]
  · rw [V_goff]
    pointwise [h]

theorem voff (c : Dev nD) (t : Fin cfg0.N) (e : Fin 1024) (h : t.val % 6 * 1024 + e.val < 5504) :
    (show FVec Ideal S1x1x1024 .f32 from iblk m c 7 t) (ix3 0 0 e) = (show FVec Ideal S4x11008 .f32 from m ((c.tc : Thread nD τ).loc main_arg3)) (ix2 3 ⟨5504 + (t.val % 6 * 1024 + e.val), by omega⟩) := by
  refine Eq.trans (show _ = (show FVec Ideal S4x1x6144 .f32 from V m c main_v15) (ix3 3 0 ⟨t.val % 6 * 1024 + e.val, by omega⟩) from ?_) ?_
  · blk_point [iblk, idx t]
  · rw [V_voff]
    pointwise [h]

theorem down (c : Dev nD) (t : Fin cfg0.N) (e : Fin 1024) (l : Fin 2048) :
    (show FVec Ideal S1x1024x2048 .bf16 from iblk m c 8 t) (ix3 0 e l) = if h : t.val % 6 * 1024 + e.val < 5504 then (show FVec Ideal S4x5504x2048 .f32 from m ((c.tc : Thread nD τ).loc main_arg4)) (ix3 3 ⟨t.val % 6 * 1024 + e.val, h⟩ l) else (0 : EReal) := by
  refine Eq.trans (show _ = (show FVec Ideal S4x6144x2048 .bf16 from V m c main_v17) (ix3 3 ⟨t.val % 6 * 1024 + e.val, by omega⟩ l) from ?_) ?_
  · blk_point [iblk, idx t]
  · rw [V_down]
    pointwise [zero]

theorem gain (c : Dev nD) (t : Fin cfg0.N) (l : Fin 2048) :
    (show FVec Ideal S1x2048 .f32 from iblk m c 9 t) (ix2 0 l) = (show FVec Ideal S4x2x2048 .f32 from m ((c.tc : Thread nD τ).loc main_arg5)) (ix3 3 1 l) := by
  refine Eq.trans (show _ = (show FVec Ideal S1x2048 .f32 from V m c main_v20) (ix2 0 l) from ?_) ?_
  · blk_point [iblk, idx t]
  · rw [V_gain]
    pointwise [zero]

theorem offset (c : Dev nD) (t : Fin cfg0.N) (l : Fin 2048) :
    (show FVec Ideal S1x2048 .f32 from iblk m c 10 t) (ix2 0 l) = (show FVec Ideal S4x2x2048 .f32 from m ((c.tc : Thread nD τ).loc main_arg6)) (ix3 3 1 l) := by
  refine Eq.trans (show _ = (show FVec Ideal S1x2048 .f32 from V m c main_v23) (ix2 0 l) from ?_) ?_
  · blk_point [iblk, idx t]
  · rw [V_offset]
    pointwise [zero]

theorem rows (c : Dev nD) (t : Fin cfg0.N) (r : Fin 512) (k : Fin 2048) : (show FVec Ideal S512x2048 .f32 from iblk m c 0 t) (ix2 r k)
    = (show FVec Ideal S4x4096x2048 .f32 from m ((c.tc : Thread nD τ).loc main_arg0)) (ix3 ⟨(t.val / 6 * 512 + r.val) / 4096, by have : t.val < 192 := lt_of_lt_of_eq t.isLt N_0; omega⟩ ⟨(t.val / 6 * 512 + r.val) % 4096, by omega⟩ k) := by
  refine Eq.trans (show _ = (show FVec Ideal S16384x2048 .f32 from V m c main_v0) (ix2 ⟨t.val / 6 * 512 + r.val, by have : t.val < 192 := lt_of_lt_of_eq t.isLt N_0; omega⟩ k) from ?_) ?_
  · blk_point [iblk, idx t]
  · rw [V_rows]
    pointwise []

theorem halo (c : Dev nD) (t : Fin cfg0.N) (r : Fin 8) (k : Fin 2048) (h : ¬ t.val / 6 % 8 = 0) : (show FVec Ideal S8x2048 .f32 from iblk m c 1 t) (ix2 r k)
    = (show FVec Ideal S4x4096x2048 .f32 from m ((c.tc : Thread nD τ).loc main_arg0)) (ix3 ⟨(t.val / 6 * 512 - 8 + r.val) / 4096, by have : t.val < 192 := lt_of_lt_of_eq t.isLt N_0; omega⟩ ⟨(t.val / 6 * 512 - 8 + r.val) % 4096, by omega⟩ k) := by
  refine Eq.trans (show _ = (show FVec Ideal S16384x2048 .f32 from V m c main_v0) (ix2 ⟨t.val / 6 * 512 - 8 + r.val, by have : t.val < 192 := lt_of_lt_of_eq t.isLt N_0; omega⟩ k) from ?_) ?_
  · blk_point [iblk, idx t]
  · rw [V_rows]
    pointwise []

end Cert.FfnOps

end
-- ==== Proof.FfnStep.lean ====
/- One column piece of the feed-forward kernel: the convolution of the two halves, the gate, and the product that is accumulated. -/
module

public import proofs.«01_k».proof.Proof.Gen.Kernel2Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnStep
open Cert.Kernel2Ideal Cert.Kernel2Ideal.Gen

/-- The gate's function, in the program's own constants. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- Three taps of a row product. -/
def taps (p2 p1 p0 w0 w1 w2 b : EReal) : EReal := p2 * w0 + p1 * w1 + p0 * w2 + b

/-- The product of the staged rows with 256 columns. -/
def u (X : FVec Ideal S520x2048 .bf16) (W : FVec Ideal S1x2048x256 .bf16) : FVec Ideal S1x520x256 .f32 := k0_pay7 (F := Ideal) X W

/-- The gated activation of 256 columns. -/
def act (U V : FVec Ideal S1x520x256 .f32) (a0 a1 a2 a3 b0 b1 b2 b3 : FVec Ideal S1x1x256 .f32) : FVec Ideal S512x256 .bf16 :=
  k0_pay21 (F := Ideal) (k0_pay17 (F := Ideal) U a0 a1 a2 a3) (k0_pay18 (F := Ideal) V) (k0_pay19 (F := Ideal) V) (k0_pay20 (F := Ideal) V) b0 b1 b2 b3

/-- The accumulation of one piece. -/
def add (acc : FVec Ideal S512x2048 .f32) (A : FVec Ideal S512x256 .bf16) (W : FVec Ideal S1x256x2048 .bf16) : FVec Ideal S512x2048 .f32 :=
  k0_pay39 (F := Ideal) A acc W

theorem u_at (X : FVec Ideal S520x2048 .bf16) (W : FVec Ideal S1x2048x256 .bf16) (r : Fin 520) (e : Fin 256) :
    u X W (ix3 0 r e) = ∑ k : Fin 2048, (X (ix2 r k) : EReal) * W (ix3 0 k e) := by
  pointwise [u, k0_pay7]

theorem add_at (acc : FVec Ideal S512x2048 .f32) (A : FVec Ideal S512x256 .bf16) (W : FVec Ideal S1x256x2048 .bf16) (r : Fin 512) (l : Fin 2048) :
    add acc A W (ix2 r l) = (acc (ix2 r l) : EReal) + ∑ e : Fin 256, (A (ix2 r e) : EReal) * W (ix3 0 e l) := by
  pointwise [add, k0_pay39]

theorem gate_at (U : FVec Ideal S1x520x256 .f32) (a0 a1 a2 a3 : FVec Ideal S1x1x256 .f32) (r : Fin 512) (e : Fin 256) :
    k0_pay17 (F := Ideal) U a0 a1 a2 a3 (ix2 r e)
      = taps (U (ix3 0 ⟨6 + r.val, by omega⟩ e)) (U (ix3 0 ⟨7 + r.val, by omega⟩ e)) (U (ix3 0 ⟨8 + r.val, by omega⟩ e)) (a0 (ix3 0 0 e)) (a1 (ix3 0 0 e)) (a2 (ix3 0 0 e)) (a3 (ix3 0 0 e)) := by
  pointwise [k0_pay17, taps]
  simp only [show (8 + r.val + 520 - 2) % 520 = 6 + r.val by omega, show (8 + r.val + 520 - 1) % 520 = 7 + r.val by omega]

theorem act_at (U V : FVec Ideal S1x520x256 .f32) (a0 a1 a2 a3 b0 b1 b2 b3 : FVec Ideal S1x1x256 .f32) (r : Fin 512) (e : Fin 256) :
    act U V a0 a1 a2 a3 b0 b1 b2 b3 (ix2 r e)
      = gelu (taps (U (ix3 0 ⟨6 + r.val, by omega⟩ e)) (U (ix3 0 ⟨7 + r.val, by omega⟩ e)) (U (ix3 0 ⟨8 + r.val, by omega⟩ e)) (a0 (ix3 0 0 e)) (a1 (ix3 0 0 e)) (a2 (ix3 0 0 e)) (a3 (ix3 0 0 e)))
        * taps (V (ix3 0 ⟨6 + r.val, by omega⟩ e)) (V (ix3 0 ⟨7 + r.val, by omega⟩ e)) (V (ix3 0 ⟨8 + r.val, by omega⟩ e)) (b0 (ix3 0 0 e)) (b1 (ix3 0 0 e)) (b2 (ix3 0 0 e)) (b3 (ix3 0 0 e)) := by
  rw [← gate_at U, act]
  generalize k0_pay17 (F := Ideal) U a0 a1 a2 a3 = G
  pointwise [k0_pay18, k0_pay19, k0_pay20, k0_pay21, taps, gelu]
  simp only [show (8 + r.val + 520 - 2) % 520 = 6 + r.val by omega, show (8 + r.val + 520 - 1) % 520 = 7 + r.val by omega]

section Cuts

theorem inb_up (o : ℕ) (h : o + 256 ≤ 1024) : ∀ a, (![0, 0, o] : Fin 3 → ℕ) a + (![1, 2048, 256] : Fin 3 → ℕ) a ≤ S1x2048x1024.size a := fun a => by
  match a with
  | ⟨0, _⟩ => show 0 + 1 ≤ 1; omega
  | ⟨1, _⟩ => show 0 + 2048 ≤ 2048; omega
  | ⟨2, _⟩ => exact h

theorem inb_tap (k : ℕ) (hk : k < 3) (o : ℕ) (h : o + 256 ≤ 1024) : ∀ a, (![0, k, o] : Fin 3 → ℕ) a + (![1, 1, 256] : Fin 3 → ℕ) a ≤ S1x3x1024.size a := fun a => by
  match a with
  | ⟨0, _⟩ => show 0 + 1 ≤ 1; omega
  | ⟨1, _⟩ => exact hk
  | ⟨2, _⟩ => exact h

theorem inb_off (o : ℕ) (h : o + 256 ≤ 1024) : ∀ a, (![0, 0, o] : Fin 3 → ℕ) a + (![1, 1, 256] : Fin 3 → ℕ) a ≤ S1x1x1024.size a := fun a => by
  match a with
  | ⟨0, _⟩ => show 0 + 1 ≤ 1; omega
  | ⟨1, _⟩ => show 0 + 1 ≤ 1; omega
  | ⟨2, _⟩ => exact h

theorem inb_down (o : ℕ) (h : o + 256 ≤ 1024) : ∀ a, (![0, o, 0] : Fin 3 → ℕ) a + (![1, 256, 2048] : Fin 3 → ℕ) a ≤ S1x1024x2048.size a := fun a => by
  match a with
  | ⟨0, _⟩ => show 0 + 1 ≤ 1; omega
  | ⟨1, _⟩ => exact h
  | ⟨2, _⟩ => show 0 + 2048 ≤ 2048; omega

def cutUp (o : ℕ) (h : o + 256 ≤ 1024) (W : FVec Ideal S1x2048x1024 .bf16) : FVec Ideal S1x2048x256 .bf16 := View.ld (Val := Elt Ideal) (S := S1x2048x1024) (e' := .bf16) W (Rect.unit (s := S1x2048x1024) ![0, 0, o] ![1, 2048, 256] (inb_up o h))
def cutTap (o : ℕ) (h : o + 256 ≤ 1024) (k : ℕ) (hk : k < 3) (W : FVec Ideal S1x3x1024 .f32) : FVec Ideal S1x1x256 .f32 := View.ld (Val := Elt Ideal) (S := S1x3x1024) (e' := .f32) W (Rect.unit (s := S1x3x1024) ![0, k, o] ![1, 1, 256] (inb_tap k hk o h))
def cutOff (o : ℕ) (h : o + 256 ≤ 1024) (W : FVec Ideal S1x1x1024 .f32) : FVec Ideal S1x1x256 .f32 := View.ld (Val := Elt Ideal) (S := S1x1x1024) (e' := .f32) W (Rect.unit (s := S1x1x1024) ![0, 0, o] ![1, 1, 256] (inb_off o h))
def cutDown (o : ℕ) (h : o + 256 ≤ 1024) (W : FVec Ideal S1x1024x2048 .bf16) : FVec Ideal S1x256x2048 .bf16 := View.ld (Val := Elt Ideal) (S := S1x1024x2048) (e' := .bf16) W (Rect.unit (s := S1x1024x2048) ![0, o, 0] ![1, 256, 2048] (inb_down o h))

theorem cutUp_at (o : ℕ) (h : o + 256 ≤ 1024) (W : FVec Ideal S1x2048x1024 .bf16) (k : Fin 2048) (e : Fin 256) : cutUp o h W (ix3 0 k e) = W (ix3 0 k ⟨o + e.val, by omega⟩) := by
  show W ((Rect.unit (s := S1x2048x1024) ![0, 0, o] ![1, 2048, 256] (inb_up o h)).emb (ix3 0 k e)) = _
  refine congrArg W (funext fun a => Fin.ext ?_)
  match a with
  | ⟨0, _⟩ => rfl
  | ⟨1, _⟩ => show 0 + 1 * k.val = k.val; omega
  | ⟨2, _⟩ => show o + 1 * e.val = o + e.val; omega

theorem cutTap_at (o : ℕ) (h : o + 256 ≤ 1024) (k : ℕ) (hk : k < 3) (W : FVec Ideal S1x3x1024 .f32) (e : Fin 256) : cutTap o h k hk W (ix3 0 0 e) = W (ix3 0 ⟨k, hk⟩ ⟨o + e.val, by omega⟩) := by
  show W ((Rect.unit (s := S1x3x1024) ![0, k, o] ![1, 1, 256] (inb_tap k hk o h)).emb (ix3 0 0 e)) = _
  refine congrArg W (funext fun a => Fin.ext ?_)
  match a with
  | ⟨0, _⟩ => rfl
  | ⟨1, _⟩ => rfl
  | ⟨2, _⟩ => show o + 1 * e.val = o + e.val; omega

theorem cutOff_at (o : ℕ) (h : o + 256 ≤ 1024) (W : FVec Ideal S1x1x1024 .f32) (e : Fin 256) : cutOff o h W (ix3 0 0 e) = W (ix3 0 0 ⟨o + e.val, by omega⟩) := by
  show W ((Rect.unit (s := S1x1x1024) ![0, 0, o] ![1, 1, 256] (inb_off o h)).emb (ix3 0 0 e)) = _
  refine congrArg W (funext fun a => Fin.ext ?_)
  match a with
  | ⟨0, _⟩ => rfl
  | ⟨1, _⟩ => rfl
  | ⟨2, _⟩ => show o + 1 * e.val = o + e.val; omega

theorem cutDown_at (o : ℕ) (h : o + 256 ≤ 1024) (W : FVec Ideal S1x1024x2048 .bf16) (e : Fin 256) (l : Fin 2048) : cutDown o h W (ix3 0 e l) = W (ix3 0 ⟨o + e.val, by omega⟩ l) := by
  show W ((Rect.unit (s := S1x1024x2048) ![0, o, 0] ![1, 256, 2048] (inb_down o h)).emb (ix3 0 e l)) = _
  refine congrArg W (funext fun a => Fin.ext ?_)
  match a with
  | ⟨0, _⟩ => rfl
  | ⟨1, _⟩ => show o + 1 * e.val = o + e.val; omega
  | ⟨2, _⟩ => show 0 + 1 * l.val = l.val; omega

end Cuts

section Piece
variable (X : FVec Ideal S520x2048 .bf16) (w2 w3 : FVec Ideal S1x2048x1024 .bf16) (w4 w5 : FVec Ideal S1x3x1024 .f32) (w6 w7 : FVec Ideal S1x1x1024 .f32)
  (w8 : FVec Ideal S1x1024x2048 .bf16)

/-- What the columns `o … o + 255` of a step add to the accumulator. -/
def piece (o : ℕ) (h : o + 256 ≤ 1024) (acc : FVec Ideal S512x2048 .f32) : FVec Ideal S512x2048 .f32 :=
  add acc (act (u X (cutUp o h w2)) (u X (cutUp o h w3))
      (cutTap o h 0 (by decide) w4) (cutTap o h 1 (by decide) w4) (cutTap o h 2 (by decide) w4) (cutOff o h w6)
      (cutTap o h 0 (by decide) w5) (cutTap o h 1 (by decide) w5) (cutTap o h 2 (by decide) w5) (cutOff o h w7)) (cutDown o h w8)

/-- The product of row `r` of the staged rows with column `c`. -/
def prod (W : FVec Ideal S1x2048x1024 .bf16) (r : Fin 520) (c : Fin 1024) : EReal := ∑ k : Fin 2048, (X (ix2 r k) : EReal) * W (ix3 0 k c)

/-- The convolution at row `r` and column `c` of the step. -/
def conv (W : FVec Ideal S1x2048x1024 .bf16) (T : FVec Ideal S1x3x1024 .f32) (B : FVec Ideal S1x1x1024 .f32) (r : Fin 512) (c : Fin 1024) : EReal :=
  taps (prod X W ⟨6 + r.val, by omega⟩ c) (prod X W ⟨7 + r.val, by omega⟩ c) (prod X W ⟨8 + r.val, by omega⟩ c) (T (ix3 0 0 c)) (T (ix3 0 1 c)) (T (ix3 0 2 c)) (B (ix3 0 0 c))

/-- The gated activation at row `r` and column `c` of the step. -/
def gated (r : Fin 512) (c : Fin 1024) : EReal := gelu (conv X w2 w4 w6 r c) * conv X w3 w5 w7 r c

theorem piece_at (o : ℕ) (h : o + 256 ≤ 1024) (acc : FVec Ideal S512x2048 .f32) (r : Fin 512) (l : Fin 2048) :
    piece X w2 w3 w4 w5 w6 w7 w8 o h acc (ix2 r l)
      = (acc (ix2 r l) : EReal) + ∑ e : Fin 256, gated X w2 w3 w4 w5 w6 w7 r ⟨o + e.val, by omega⟩ * w8 (ix3 0 ⟨o + e.val, by omega⟩ l) := by
  rw [piece, add_at]
  simp only [act_at, u_at, cutUp_at, cutTap_at, cutOff_at, cutDown_at]
  rfl

end Piece

end Cert.FfnStep

end
-- ==== Proof.FfnSweep.lean ====
/- What each grid step of the feed-forward kernel leaves in its scratch and its result, as pieces over the step's blocks. -/
module

public import proofs.«01_k».proof.Proof.FfnStep
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnSweep
open Cert.Kernel2Ideal Cert.Kernel2Ideal.Gen Cert.FfnStep

variable (m : (ℓ : Loc nD τ sig) → Buf (Elt Ideal) ℓ)

/-- A product stored in the second plane is read back from it. -/
theorem plane1 (v : View sig .tc .vmem S2x520x256 .f32) (p0 p1 : FVec Ideal S1x520x256 .f32) (h1 h0 h) :
    v.readCov (Val := Elt Ideal) [⟨Rect.unit (s := S2x520x256) ![1, 0, 0] ![1, 520, 256] h1, p1⟩, ⟨Rect.unit (s := S2x520x256) ![0, 0, 0] ![1, 520, 256] h0, p0⟩]
      (Rect.unit (s := S2x520x256) ![1, 0, 0] ![1, 520, 256] h).toLoadRect = p1 :=
  View.readCov_cons_toLoadRect v _ _ _

/-- A product stored in the first plane is read back from it. -/
theorem plane0 (v : View sig .tc .vmem S2x520x256 .f32) (p0 p1 : FVec Ideal S1x520x256 .f32) (h1 h0 h) :
    v.readCov (Val := Elt Ideal) [⟨Rect.unit (s := S2x520x256) ![1, 0, 0] ![1, 520, 256] h1, p1⟩, ⟨Rect.unit (s := S2x520x256) ![0, 0, 0] ![1, 520, 256] h0, p0⟩]
      (Rect.unit (s := S2x520x256) ![0, 0, 0] ![1, 520, 256] h).toLoadRect = p0 :=
  (View.readCov_skip v _ _ _ _ rfl).trans (View.readCov_cons_toLoadRect v _ _ _)

/-- The four pieces of a full step. -/
def four (c : Dev nD) (t : Fin cfg0.N) (X : FVec Ideal S520x2048 .bf16) (acc : FVec Ideal S512x2048 .f32) : FVec Ideal S512x2048 .f32 :=
  piece X (iblk m c 2 t) (iblk m c 3 t) (iblk m c 4 t) (iblk m c 5 t) (iblk m c 6 t) (iblk m c 7 t) (iblk m c 8 t) 768 (by decide)
    (piece X (iblk m c 2 t) (iblk m c 3 t) (iblk m c 4 t) (iblk m c 5 t) (iblk m c 6 t) (iblk m c 7 t) (iblk m c 8 t) 512 (by decide)
      (piece X (iblk m c 2 t) (iblk m c 3 t) (iblk m c 4 t) (iblk m c 5 t) (iblk m c 6 t) (iblk m c 7 t) (iblk m c 8 t) 256 (by decide)
        (piece X (iblk m c 2 t) (iblk m c 3 t) (iblk m c 4 t) (iblk m c 5 t) (iblk m c 6 t) (iblk m c 7 t) (iblk m c 8 t) 0 (by decide) acc)))

/-- The two pieces of the last step. -/
def two (c : Dev nD) (t : Fin cfg0.N) (X : FVec Ideal S520x2048 .bf16) (acc : FVec Ideal S512x2048 .f32) : FVec Ideal S512x2048 .f32 :=
  piece X (iblk m c 2 t) (iblk m c 3 t) (iblk m c 4 t) (iblk m c 5 t) (iblk m c 6 t) (iblk m c 7 t) (iblk m c 8 t) 256 (by decide)
    (piece X (iblk m c 2 t) (iblk m c 3 t) (iblk m c 4 t) (iblk m c 5 t) (iblk m c 6 t) (iblk m c 7 t) (iblk m c 8 t) 0 (by decide) acc)

/-- The rows that the first step of a sweep stages: the last rows of the block before, and the block. -/
def staged (c : Dev nD) (t : Fin cfg0.N) : FVec Ideal S520x2048 .bf16 :=
  View.canon (Val := Elt Ideal) (e := .bf16) (s := S520x2048)
    [⟨Rect.unit (s := S520x2048) ![8, 0] ![512, 2048] inb_S520x2048_S512x2048_8_0, k0_pay2 (F := Ideal) (iblk m c 0 t)⟩,
      ⟨Rect.unit (s := S520x2048) ![0, 0] ![8, 2048] inb_S520x2048_S8x2048_0_0, k0_pay1 (F := Ideal) (grid0.coords t) (iblk m c 1 t)⟩]

/-- Both stores read back whole. -/
theorem whole (v : View sig .tc .vmem S520x2048 .bf16) (p0 : FVec Ideal S8x2048 .bf16) (p1 : FVec Ideal S512x2048 .bf16) (h1 h0 h) :
    v.readCov (Val := Elt Ideal) [⟨Rect.unit (s := S520x2048) ![8, 0] ![512, 2048] h1, p1⟩, ⟨Rect.unit (s := S520x2048) ![0, 0] ![8, 2048] h0, p0⟩]
      (Rect.unit (s := S520x2048) ![0, 0] ![520, 2048] h).toLoadRect
    = View.canon (Val := Elt Ideal) (e := .bf16) (s := S520x2048) [⟨Rect.unit (s := S520x2048) ![8, 0] ![512, 2048] h1, p1⟩, ⟨Rect.unit (s := S520x2048) ![0, 0] ![8, 2048] h0, p0⟩] := by
  exact (View.readCov_eq_canon' v _ _).trans (funext fun j => congrArg _ (funext fun a => Fin.ext (by
    match a with
    | ⟨0, _⟩ => show 0 + 1 * (j 0).val = (j 0).val; omega
    | ⟨1, _⟩ => show 0 + 1 * (j 1).val = (j 1).val; omega)))

theorem staged_A (c : Dev nD) (t : Fin cfg0.N) (h0 : t.val % 6 = 0) (h1 : t.val % 6 ≤ 4) (h2 : ¬ t.val % 6 = 5) :
    (outsAt0 m c t.val t.isLt).2.1 = staged m c t := by
  rw [outsAt0_A m c t h0 h1 h2]
  frame_out

theorem acc_B (c : Dev nD) (t : Fin cfg0.N) (h0 : ¬t.val % 6 = 0) (h1 : t.val % 6 ≤ 4) (h2 : ¬t.val % 6 = 5) (hb : t.val - 1 < cfg0.N) :
    (outsAt0 m c t.val t.isLt).2.2 = four m c t (outsAt0 m c (t.val - 1) hb).2.1 (outsAt0 m c (t.val - 1) hb).2.2 := by
  rw [outsAt0_B m c t h0 h1 h2]
  frame_out
  simp only [plane0, plane1, read_unread_whole]
  rfl

theorem out_C (c : Dev nD) (t : Fin cfg0.N) (h0 : ¬t.val % 6 = 0) (h1 : ¬ t.val % 6 ≤ 4) (h2 : t.val % 6 = 5) (hb : t.val - 1 < cfg0.N) :
    (outsAt0 m c t.val t.isLt).1 = k0_pay6 (F := Ideal) (two m c t (outsAt0 m c (t.val - 1) hb).2.1 (outsAt0 m c (t.val - 1) hb).2.2) (iblk m c 9 t) (iblk m c 10 t) := by
  rw [outsAt0_C m c t h0 h1 h2]
  frame_out
  simp only [plane0, plane1, read_unread_whole]
  rfl

theorem kept_B (c : Dev nD) (t : Fin cfg0.N) (h0 : ¬t.val % 6 = 0) (h1 : t.val % 6 ≤ 4) (h2 : ¬t.val % 6 = 5) (hb : t.val - 1 < cfg0.N) :
    (outsAt0 m c t.val t.isLt).2.1 = (outsAt0 m c (t.val - 1) hb).2.1 := by
  rw [outsAt0_B m c t h0 h1 h2]
  rfl

theorem acc_A (c : Dev nD) (t : Fin cfg0.N) (h0 : t.val % 6 = 0) (h1 : t.val % 6 ≤ 4) (h2 : ¬ t.val % 6 = 5) :
    (outsAt0 m c t.val t.isLt).2.2 = four m c t (staged m c t) (k0_pay3 (F := Ideal) (iblk m c 0 t)) := by
  rw [outsAt0_A m c t h0 h1 h2]
  frame_out
  simp only [plane0, plane1, whole]
  rfl

end Cert.FfnSweep

end
-- ==== Proof.Norm.lean ====
/- The layer norm of one row, as both programs of a pair compute it over the extended reals. -/
module

public import Idealize.ShloMosaic.Lib.Pointwise

@[expose] public section

set_option maxRecDepth 16384

noncomputable section

namespace Trunk

open Idealize.ShloMosaic

/-- The mean of a row of 2048. -/
def mean (y : Fin 2048 → EReal) : EReal := Ideal.div (∑ k, y k) (Ideal.ofBits .f32 0x45000000#32)

/-- The norm of the row `y` at lane `l`, with that lane's gain and offset. -/
def norm (y : Fin 2048 → EReal) (g b : EReal) (l : Fin 2048) : EReal :=
  (y l - mean y) * Ideal.rsqrt (mean (fun k => (y k - mean y) * (y k - mean y)) + Ideal.ofBits .f32 0x3727C5AC#32) * g + b

end Trunk

end
-- ==== Proof.FfnTerms.lean ====
/- The feed-forward layer as one function of the arguments, written with its row products, taps and gate. -/
module

public import proofs.«01_k».proof.Proof.FfnStep
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.FfnTerms
open Cert.Kernel2Ideal Cert.FfnStep

variable (H : FVec Ideal S4x4096x2048 .f32) (U : FVec Ideal S4x2048x11008 .f32) (T : FVec Ideal S4x3x11008 .f32) (B : FVec Ideal S4x11008 .f32)
  (D : FVec Ideal S4x5504x2048 .f32)

/-- A row of a sequence that starts with two rows of zeros. -/
def padded (b : Fin 4) (p : Fin 4098) (k : Fin 2048) : EReal :=
  if h : 2 ≤ p.val then H (ix3 b ⟨p.val - 2, by omega⟩ k) else 0

/-- The product of a padded row with column `C`. -/
def product (b : Fin 4) (p : Fin 4098) (C : Fin 11008) : EReal := ∑ k : Fin 2048, padded H b p k * U (ix3 3 k C)

/-- The convolution of column `C` at row `s`. -/
def conv (b : Fin 4) (s : Fin 4096) (C : Fin 11008) : EReal :=
  taps (product H U b ⟨s.val, by omega⟩ C) (product H U b ⟨1 + s.val, by omega⟩ C) (product H U b ⟨2 + s.val, by omega⟩ C)
    (T (ix3 3 0 C)) (T (ix3 3 1 C)) (T (ix3 3 2 C)) (B (ix2 3 C))

/-- The gated activation of column `C` at row `s`. -/
def gated (b : Fin 4) (s : Fin 4096) (C : Fin 5504) : EReal :=
  gelu (conv H U T B b s ⟨C.val, by omega⟩) * conv H U T B b s ⟨5504 + C.val, by omega⟩

/-- The row that is normed. -/
def row (b : Fin 4) (s : Fin 4096) (l : Fin 2048) : EReal :=
  Ideal.ofBits .f32 0x3FD744FD#32 * H (ix3 b s l) + ∑ C : Fin 5504, gated H U T B b s C * D (ix3 3 C l)

/-- The result array. -/
def OUT (G O : FVec Ideal S4x2x2048 .f32) : FVec Ideal S16384x2048 .f32 := fun j =>
  Trunk.norm (row H U T B D ⟨(j 0 : ℕ) / 4096, by have : (j 0 : ℕ) < 16384 := (j 0).isLt; omega⟩ ⟨(j 0 : ℕ) % 4096, by omega⟩)
    (G (ix3 3 1 (j 1))) (O (ix3 3 1 (j 1))) (j 1)

/-- What column `C` adds, when the columns beyond the layer's own are counted as zero. -/
def term (b : Fin 4) (s : Fin 4096) (l : Fin 2048) (C : ℕ) : EReal :=
  if h : C < 5504 then gated H U T B b s ⟨C, h⟩ * D (ix3 3 ⟨C, h⟩ l) else 0

/-- All the columns that the kernel goes through. -/
theorem total (b : Fin 4) (s : Fin 4096) (l : Fin 2048) :
    ∑ C ∈ Finset.range 5632, term H U T B D b s l C = ∑ C : Fin 5504, gated H U T B b s C * D (ix3 3 C l) := by
  have e : ∑ C ∈ Finset.range 5504, term H U T B D b s l C = ∑ C ∈ Finset.range 5632, term H U T B D b s l C := by
    refine Finset.sum_subset (fun x hx => ?_) (fun x _ hx => ?_)
    · rw [Finset.mem_range] at hx ⊢
      omega
    · rw [Finset.mem_range] at hx
      exact dif_neg hx
  rw [← e, Finset.sum_range]
  exact Finset.sum_congr rfl fun C _ => dif_pos C.isLt

/-- A stretch of 256 columns more. -/
theorem more (f : ℕ → EReal) (a : EReal) (n : ℕ) :
    a + ∑ C ∈ Finset.range n, f C + ∑ e : Fin 256, f (n + e.val) = a + ∑ C ∈ Finset.range (n + 256), f C := by
  rw [Finset.sum_range_add, Finset.sum_range (n := 256), add_assoc]

end Cert.FfnTerms

end
-- ==== Proof.FfnAcc.lean ====
/- The rows and columns of a grid step of the feed-forward kernel are those of the layer. -/
module

public import proofs.«01_k».proof.Proof.FfnOps
public import proofs.«01_k».proof.Proof.FfnSweep
public import proofs.«01_k».proof.Proof.FfnTerms

@[expose] public section

set_option maxRecDepth 16384

noncomputable section

open Idealize.ShloMosaic Idealize.ShloMosaic.TcCoe Idealize.SL.Sem
open Idealize.ShloMosaic.Pipeline (Dat)

namespace Cert.FfnAcc
open Cert.Kernel2Ideal Cert.Kernel2Ideal.Gen Cert.FfnStep Cert.FfnSweep

variable (m : (ℓ : Loc nD τ sig) → Buf (Elt Ideal) ℓ)

theorem flag : ∀ t : Fin cfg0.N, (let v9 := Scalar.muli (BitVec.ofNat 32 (grid0.coords t 0).val) 512#32
    let v11 := Scalar.select (Scalar.cmpi .eq 4096#32 0#32) 1#32 4096#32
    let v12 := Scalar.remsi v9 v11
    Scalar.cmpi .eq (Scalar.select (Scalar.andi (Scalar.xori (Scalar.cmpi .slt v12 0#32) (Scalar.cmpi .slt v11 0#32)) (Scalar.cmpi .ne v12 0#32)) (Scalar.addi v12 v11) v12) 0#32)
      = BitVec.ofBool (decide (t.val / 6 % 8 = 0)) :=
  (by decide +kernel : ∀ t : Fin grid0.N, (let v9 := Scalar.muli (BitVec.ofNat 32 (grid0.coords t 0).val) 512#32
    let v11 := Scalar.select (Scalar.cmpi .eq 4096#32 0#32) 1#32 4096#32
    let v12 := Scalar.remsi v9 v11
    Scalar.cmpi .eq (Scalar.select (Scalar.andi (Scalar.xori (Scalar.cmpi .slt v12 0#32) (Scalar.cmpi .slt v11 0#32)) (Scalar.cmpi .ne v12 0#32)) (Scalar.addi v12 v11) v12) 0#32)
      = BitVec.ofBool (decide (t.val / 6 % 8 = 0)))

theorem pay1_first (t : Fin cfg0.N) (h : t.val / 6 % 8 = 0) (x : FVec Ideal S8x2048 .f32) (r : Fin 8) (k : Fin 2048) :
    k0_pay1 (F := Ideal) (grid0.coords t) x (ix2 r k) = (0 : EReal) := by
  have e := flag t
  rw [decide_eq_true h] at e
  unfold k0_pay1
  simp only [] at e ⊢
  rw [e]
  pointwise []

theorem pay1_later (t : Fin cfg0.N) (h : ¬ t.val / 6 % 8 = 0) (x : FVec Ideal S8x2048 .f32) (r : Fin 8) (k : Fin 2048) :
    k0_pay1 (F := Ideal) (grid0.coords t) x (ix2 r k) = x (ix2 r k) := by
  have e := flag t
  rw [decide_eq_false h] at e
  unfold k0_pay1
  simp only [] at e ⊢
  rw [e]
  pointwise []
  exact congrFun (if_neg Bool.false_ne_true) _

/-- The sequence, and the row in it, of row `r` of a grid step. -/
def bat (t : Fin cfg0.N) : Fin 4 := ⟨t.val / 48, by have : t.val < 192 := lt_of_lt_of_eq t.isLt N_0; omega⟩
def sat (t : Fin cfg0.N) (r : Fin 512) : Fin 4096 := ⟨t.val / 6 % 8 * 512 + r.val, by omega⟩

/-- The staged rows, from row 6 on, are those of the padded sequence. -/
def Holds (c : Dev nD) (t : Fin cfg0.N) (X : FVec Ideal S520x2048 .bf16) : Prop :=
  ∀ (q : Fin 520) (p : Fin 4098) (k : Fin 2048), 6 ≤ q.val → p.val + 6 = t.val / 6 % 8 * 512 + q.val →
    X (ix2 q k) = FfnTerms.padded (show FVec Ideal S4x4096x2048 .f32 from m ((c.tc : Thread nD τ).loc main_arg0)) (bat t) p k

theorem holds_congr (c : Dev nD) (t t' : Fin cfg0.N) (h : t.val / 6 = t'.val / 6) (X : FVec Ideal S520x2048 .bf16) (H : Holds m c t X) : Holds m c t' X := by
  intro q p k h6 hp
  rw [H q p k h6 (by rw [h]; exact hp)]
  have h2 : bat t = bat t' := Fin.ext (by show t.val / 48 = t'.val / 48; omega)
  rw [h2]

theorem staged_tail (c : Dev nD) (t : Fin cfg0.N) (q : Fin 520) (r : Fin 512) (k : Fin 2048) (h : q.val = 8 + r.val) :
    staged m c t (ix2 q k) = k0_pay2 (F := Ideal) (iblk m c 0 t) (ix2 r k) := by
  have e : ix2 q k = (Rect.unit (s := S520x2048) ![8, 0] ![512, 2048] inb_S520x2048_S512x2048_8_0).emb (ix2 r k) := by
    funext a
    match a with
    | ⟨0, _⟩ => exact Fin.ext (by show q.val = 8 + 1 * r.val; omega)
    | ⟨1, _⟩ => exact Fin.ext (by show k.val = 0 + 1 * k.val; omega)
  rw [e]
  exact View.canon_cons_emb _ _ _ _

theorem staged_head (c : Dev nD) (t : Fin cfg0.N) (q : Fin 520) (r : Fin 8) (k : Fin 2048) (h : q.val = r.val) :
    staged m c t (ix2 q k) = k0_pay1 (F := Ideal) (grid0.coords t) (iblk m c 1 t) (ix2 r k) := by
  refine (View.canon_cons_of_not_mem _ _ (fun hm => ?_)).trans ?_
  · have h8 : 8 ≤ q.val := ((Rect.mem_set_unit (inb := inb_S520x2048_S512x2048_8_0)).mp hm (0 : Fin 2)).1
    omega
  have e : ix2 q k = (Rect.unit (s := S520x2048) ![0, 0] ![8, 2048] inb_S520x2048_S8x2048_0_0).emb (ix2 r k) := by
    funext a
    match a with
    | ⟨0, _⟩ => exact Fin.ext (by show q.val = 0 + 1 * r.val; omega)
    | ⟨1, _⟩ => exact Fin.ext (by show k.val = 0 + 1 * k.val; omega)
  rw [e]
  exact View.canon_cons_emb _ _ _ _

theorem at3 (X : FVec Ideal S4x4096x2048 .f32) (b b' : Fin 4) (s s' : Fin 4096) (k : Fin 2048) (hb : b.val = b'.val) (hs : s.val = s'.val) :
    X (ix3 b s k) = X (ix3 b' s' k) := by
  rw [Fin.ext hb, Fin.ext hs]

theorem staged_holds (c : Dev nD) (t : Fin cfg0.N) : Holds m c t (staged m c t) := by
  intro q p k h6 hp
  have ht : t.val < 192 := lt_of_lt_of_eq t.isLt N_0
  have hq : q.val < 520 := q.isLt
  unfold FfnTerms.padded
  by_cases h8 : q.val < 8
  · rw [staged_head m c t q ⟨q.val, h8⟩ k rfl]
    by_cases hf : t.val / 6 % 8 = 0
    · rw [pay1_first t hf, dif_neg (by omega)]
    · rw [pay1_later t hf, dif_pos (by omega)]
      refine (FfnOps.halo m c t ⟨q.val, h8⟩ k hf).trans ?_
      exact at3 _ _ _ _ _ k (by show (t.val / 6 * 512 - 8 + q.val) / 4096 = t.val / 48; omega)
        (by show (t.val / 6 * 512 - 8 + q.val) % 4096 = p.val - 2; omega)
  · rw [staged_tail m c t q ⟨q.val - 8, by omega⟩ k (by show q.val = 8 + (q.val - 8); omega), dif_pos (by omega)]
    refine Eq.trans (by pointwise [k0_pay2]) ((FfnOps.rows m c t ⟨q.val - 8, by omega⟩ k).trans ?_)
    exact at3 _ _ _ _ _ k (by show (t.val / 6 * 512 + (q.val - 8)) / 4096 = t.val / 48; omega)
      (by show (t.val / 6 * 512 + (q.val - 8)) % 4096 = p.val - 2; omega)

/-- A row product of a step is one of the layer. -/
theorem prod_at (c : Dev nD) (t : Fin cfg0.N) (X : FVec Ideal S520x2048 .bf16) (HX : Holds m c t X) (W : FVec Ideal S1x2048x1024 .bf16) (e : Fin 1024) (C : Fin 11008)
    (hW : ∀ k : Fin 2048, W (ix3 0 k e) = (show FVec Ideal S4x2048x11008 .f32 from m ((c.tc : Thread nD τ).loc main_arg1)) (ix3 3 k C)) (q : Fin 520) (p : Fin 4098) (h6 : 6 ≤ q.val) (hp : p.val + 6 = t.val / 6 % 8 * 512 + q.val) :
    prod X W q e = FfnTerms.product (show FVec Ideal S4x4096x2048 .f32 from m ((c.tc : Thread nD τ).loc main_arg0)) (show FVec Ideal S4x2048x11008 .f32 from m ((c.tc : Thread nD τ).loc main_arg1)) (bat t) p C := by
  refine Finset.sum_congr rfl fun k _ => ?_
  rw [HX q p k h6 hp, hW k]

/-- So is a convolution, -/
theorem conv_at (c : Dev nD) (t : Fin cfg0.N) (X : FVec Ideal S520x2048 .bf16) (HX : Holds m c t X) (W : FVec Ideal S1x2048x1024 .bf16)
    (T : FVec Ideal S1x3x1024 .f32) (B : FVec Ideal S1x1x1024 .f32) (e : Fin 1024) (C : Fin 11008)
    (hW : ∀ k : Fin 2048, W (ix3 0 k e) = (show FVec Ideal S4x2048x11008 .f32 from m ((c.tc : Thread nD τ).loc main_arg1)) (ix3 3 k C)) (hT : ∀ k : Fin 3, T (ix3 0 k e) = (show FVec Ideal S4x3x11008 .f32 from m ((c.tc : Thread nD τ).loc main_arg2)) (ix3 3 k C)) (hB : B (ix3 0 0 e) = (show FVec Ideal S4x11008 .f32 from m ((c.tc : Thread nD τ).loc main_arg3)) (ix2 3 C)) (r : Fin 512) :
    FfnStep.conv X W T B r e = FfnTerms.conv (show FVec Ideal S4x4096x2048 .f32 from m ((c.tc : Thread nD τ).loc main_arg0)) (show FVec Ideal S4x2048x11008 .f32 from m ((c.tc : Thread nD τ).loc main_arg1)) (show FVec Ideal S4x3x11008 .f32 from m ((c.tc : Thread nD τ).loc main_arg2)) (show FVec Ideal S4x11008 .f32 from m ((c.tc : Thread nD τ).loc main_arg3)) (bat t) (sat t r) C := by
  unfold FfnStep.conv FfnTerms.conv
  rw [prod_at m c t X HX W e C hW _ ⟨(sat t r).val, by have := (sat t r).isLt; omega⟩ (by show 6 ≤ 6 + r.val; omega) (by show t.val / 6 % 8 * 512 + r.val + 6 = t.val / 6 % 8 * 512 + (6 + r.val); omega),
    prod_at m c t X HX W e C hW _ ⟨1 + (sat t r).val, by have := (sat t r).isLt; omega⟩ (by show 6 ≤ 7 + r.val; omega) (by show 1 + (t.val / 6 % 8 * 512 + r.val) + 6 = t.val / 6 % 8 * 512 + (7 + r.val); omega),
    prod_at m c t X HX W e C hW _ ⟨2 + (sat t r).val, by have := (sat t r).isLt; omega⟩ (by show 6 ≤ 8 + r.val; omega) (by show 2 + (t.val / 6 % 8 * 512 + r.val) + 6 = t.val / 6 % 8 * 512 + (8 + r.val); omega),
    hT 0, hT 1, hT 2, hB]

/-- and what one column adds. -/
theorem term_at (c : Dev nD) (t : Fin cfg0.N) (X : FVec Ideal S520x2048 .bf16) (HX : Holds m c t X) (r : Fin 512) (l : Fin 2048) (e : Fin 1024) :
    FfnStep.gated X (iblk m c 2 t) (iblk m c 3 t) (iblk m c 4 t) (iblk m c 5 t) (iblk m c 6 t) (iblk m c 7 t) r e
      * (show FVec Ideal S1x1024x2048 .bf16 from iblk m c 8 t) (ix3 0 e l)
    = FfnTerms.term (show FVec Ideal S4x4096x2048 .f32 from m ((c.tc : Thread nD τ).loc main_arg0)) (show FVec Ideal S4x2048x11008 .f32 from m ((c.tc : Thread nD τ).loc main_arg1)) (show FVec Ideal S4x3x11008 .f32 from m ((c.tc : Thread nD τ).loc main_arg2)) (show FVec Ideal S4x11008 .f32 from m ((c.tc : Thread nD τ).loc main_arg3)) (show FVec Ideal S4x5504x2048 .f32 from m ((c.tc : Thread nD τ).loc main_arg4)) (bat t) (sat t r) l (t.val % 6 * 1024 + e.val) := by
  rw [FfnOps.down m c t e l]
  unfold FfnTerms.term
  by_cases h : t.val % 6 * 1024 + e.val < 5504
  · rw [dif_pos h, dif_pos h]
    congr 1
    unfold FfnStep.gated FfnTerms.gated
    rw [conv_at m c t X HX (iblk m c 2 t) (iblk m c 4 t) (iblk m c 6 t) e ⟨t.val % 6 * 1024 + e.val, by omega⟩ (fun k => FfnOps.gate m c t k e h) (fun k => FfnOps.gtap m c t k e h) (FfnOps.goff m c t e h) r,
      conv_at m c t X HX (iblk m c 3 t) (iblk m c 5 t) (iblk m c 7 t) e ⟨5504 + (t.val % 6 * 1024 + e.val), by omega⟩ (fun k => FfnOps.value m c t k e h) (fun k => FfnOps.vtap m c t k e h) (FfnOps.voff m c t e h) r]
  · rw [dif_neg h, dif_neg h, mul_zero]

/-- One piece of a step takes the sum 256 columns on. -/
theorem piece_on (c : Dev nD) (t : Fin cfg0.N) (X : FVec Ideal S520x2048 .bf16) (HX : Holds m c t X) (r : Fin 512) (l : Fin 2048) (a : EReal)
    (o : ℕ) (h : o + 256 ≤ 1024) (acc : FVec Ideal S512x2048 .f32) (n : ℕ) (hn : n = t.val % 6 * 1024 + o)
    (hacc : acc (ix2 r l) = a + ∑ C ∈ Finset.range n, FfnTerms.term (show FVec Ideal S4x4096x2048 .f32 from m ((c.tc : Thread nD τ).loc main_arg0)) (show FVec Ideal S4x2048x11008 .f32 from m ((c.tc : Thread nD τ).loc main_arg1)) (show FVec Ideal S4x3x11008 .f32 from m ((c.tc : Thread nD τ).loc main_arg2)) (show FVec Ideal S4x11008 .f32 from m ((c.tc : Thread nD τ).loc main_arg3)) (show FVec Ideal S4x5504x2048 .f32 from m ((c.tc : Thread nD τ).loc main_arg4)) (bat t) (sat t r) l C) :
    piece X (iblk m c 2 t) (iblk m c 3 t) (iblk m c 4 t) (iblk m c 5 t) (iblk m c 6 t) (iblk m c 7 t) (iblk m c 8 t) o h acc (ix2 r l)
      = a + ∑ C ∈ Finset.range (n + 256), FfnTerms.term (show FVec Ideal S4x4096x2048 .f32 from m ((c.tc : Thread nD τ).loc main_arg0)) (show FVec Ideal S4x2048x11008 .f32 from m ((c.tc : Thread nD τ).loc main_arg1)) (show FVec Ideal S4x3x11008 .f32 from m ((c.tc : Thread nD τ).loc main_arg2)) (show FVec Ideal S4x11008 .f32 from m ((c.tc : Thread nD τ).loc main_arg3)) (show FVec Ideal S4x5504x2048 .f32 from m ((c.tc : Thread nD τ).loc main_arg4)) (bat t) (sat t r) l C := by
  subst hn
  refine (piece_at X (iblk m c 2 t) (iblk m c 3 t) (iblk m c 4 t) (iblk m c 5 t) (iblk m c 6 t) (iblk m c 7 t) (iblk m c 8 t) o h acc r l).trans
    (Eq.trans ?_ (FfnTerms.more _ a (t.val % 6 * 1024 + o)))
  refine congrArg₂ (· + ·) hacc (Finset.sum_congr rfl fun e _ => ?_)
  refine (term_at m c t X HX r l ⟨o + e.val, by omega⟩).trans ?_
  exact congrArg _ (Nat.add_assoc _ _ _).symm

theorem four_on (c : Dev nD) (t : Fin cfg0.N) (X : FVec Ideal S520x2048 .bf16) (HX : Holds m c t X) (r : Fin 512) (l : Fin 2048) (a : EReal)
    (acc : FVec Ideal S512x2048 .f32)
    (hacc : acc (ix2 r l) = a + ∑ C ∈ Finset.range (t.val % 6 * 1024), FfnTerms.term (show FVec Ideal S4x4096x2048 .f32 from m ((c.tc : Thread nD τ).loc main_arg0)) (show FVec Ideal S4x2048x11008 .f32 from m ((c.tc : Thread nD τ).loc main_arg1)) (show FVec Ideal S4x3x11008 .f32 from m ((c.tc : Thread nD τ).loc main_arg2)) (show FVec Ideal S4x11008 .f32 from m ((c.tc : Thread nD τ).loc main_arg3)) (show FVec Ideal S4x5504x2048 .f32 from m ((c.tc : Thread nD τ).loc main_arg4)) (bat t) (sat t r) l C) :
    four m c t X acc (ix2 r l) = a + ∑ C ∈ Finset.range (t.val % 6 * 1024 + 1024), FfnTerms.term (show FVec Ideal S4x4096x2048 .f32 from m ((c.tc : Thread nD τ).loc main_arg0)) (show FVec Ideal S4x2048x11008 .f32 from m ((c.tc : Thread nD τ).loc main_arg1)) (show FVec Ideal S4x3x11008 .f32 from m ((c.tc : Thread nD τ).loc main_arg2)) (show FVec Ideal S4x11008 .f32 from m ((c.tc : Thread nD τ).loc main_arg3)) (show FVec Ideal S4x5504x2048 .f32 from m ((c.tc : Thread nD τ).loc main_arg4)) (bat t) (sat t r) l C := by
  rw [show t.val % 6 * 1024 + 1024 = t.val % 6 * 1024 + 256 + 256 + 256 + 256 by omega]
  have p0 := piece_on m c t X HX r l a 0 (by decide) acc (t.val % 6 * 1024) (by omega) hacc
  have p1 := piece_on m c t X HX r l a 256 (by decide) _ (t.val % 6 * 1024 + 256) (by omega) p0
  have p2 := piece_on m c t X HX r l a 512 (by decide) _ (t.val % 6 * 1024 + 256 + 256) (by omega) p1
  have p3 := piece_on m c t X HX r l a 768 (by decide) _ (t.val % 6 * 1024 + 256 + 256 + 256) (by omega) p2
  exact p3

theorem two_on (c : Dev nD) (t : Fin cfg0.N) (X : FVec Ideal S520x2048 .bf16) (HX : Holds m c t X) (r : Fin 512) (l : Fin 2048) (a : EReal)
    (acc : FVec Ideal S512x2048 .f32)
    (hacc : acc (ix2 r l) = a + ∑ C ∈ Finset.range (t.val % 6 * 1024), FfnTerms.term (show FVec Ideal S4x4096x2048 .f32 from m ((c.tc : Thread nD τ).loc main_arg0)) (show FVec Ideal S4x2048x11008 .f32 from m ((c.tc : Thread nD τ).loc main_arg1)) (show FVec Ideal S4x3x11008 .f32 from m ((c.tc : Thread nD τ).loc main_arg2)) (show FVec Ideal S4x11008 .f32 from m ((c.tc : Thread nD τ).loc main_arg3)) (show FVec Ideal S4x5504x2048 .f32 from m ((c.tc : Thread nD τ).loc main_arg4)) (bat t) (sat t r) l C) :
    two m c t X acc (ix2 r l) = a + ∑ C ∈ Finset.range (t.val % 6 * 1024 + 512), FfnTerms.term (show FVec Ideal S4x4096x2048 .f32 from m ((c.tc : Thread nD τ).loc main_arg0)) (show FVec Ideal S4x2048x11008 .f32 from m ((c.tc : Thread nD τ).loc main_arg1)) (show FVec Ideal S4x3x11008 .f32 from m ((c.tc : Thread nD τ).loc main_arg2)) (show FVec Ideal S4x11008 .f32 from m ((c.tc : Thread nD τ).loc main_arg3)) (show FVec Ideal S4x5504x2048 .f32 from m ((c.tc : Thread nD τ).loc main_arg4)) (bat t) (sat t r) l C := by
  rw [show t.val % 6 * 1024 + 512 = t.val % 6 * 1024 + 256 + 256 by omega]
  have p0 := piece_on m c t X HX r l a 0 (by decide) acc (t.val % 6 * 1024) (by omega) hacc
  have p1 := piece_on m c t X HX r l a 256 (by decide) _ (t.val % 6 * 1024 + 256) (by omega) p0
  exact p1

end Cert.FfnAcc

end
-- ==== Proof.FfnRef.lean ====
/- The feed-forward layer's reference, read at an index. -/
module

public import proofs.«01_k».proof.Defs
public import proofs.«01_k».proof.Proof.Gen.Reference2Ideal.Run
public import proofs.«01_k».proof.Proof.FfnTerms
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnRef
open Cert.Reference2Ideal Cert.Reference2Ideal.Gen Cert.FfnTerms

variable (V0 : Valuation τ sig (Elt Ideal))

/-- The arguments, by their uses. -/
def aH : FVec Ideal S4x4096x2048 .f32 := V0 (Proc.devRef .tc main_arg0)
def aU : FVec Ideal S4x2048x11008 .f32 := V0 (Proc.devRef .tc main_arg1)
def aT : FVec Ideal S4x3x11008 .f32 := V0 (Proc.devRef .tc main_arg2)
def aB : FVec Ideal S4x11008 .f32 := V0 (Proc.devRef .tc main_arg3)
def aD : FVec Ideal S4x5504x2048 .f32 := V0 (Proc.devRef .tc main_arg4)

theorem zero (φ : FTy) : (FloatOps.sitofp φ 0#32 : Ideal φ) = (0 : EReal) := by
  show (((0#32 : BitVec 32).toInt : ℝ) : EReal) = 0
  simp

theorem padded_at (b : Fin 4) (p : Fin 4098) (C : Fin 11008) :
    (show FVec Ideal S4x4098x11008 .f32 from Value.res_main_v3 V0) (ix3 b p C) = product (aH V0) (aU V0) b p C := by
  unfold Value.res_main_v3
  change _ = ∑ k : Fin 2048, padded (aH V0) b p k * aU V0 (ix3 3 k C)
  unfold padded
  by_cases h : 2 ≤ p.val
  · simp only [dif_pos h]
    unfold aH aU
    pointwise [h]
    exact dif_pos (by omega)
  · simp only [dif_neg h, zero_mul, Finset.sum_const_zero]
    pointwise [h]
    exact (dif_neg (fun q => q.1)).trans (zero _)

theorem conv_at (b : Fin 4) (s : Fin 4096) (C : Fin 11008) :
    (show FVec Ideal S4x4096x11008 .f32 from Value.res_main_v30 V0) (ix3 b s C) = conv (aH V0) (aU V0) (aT V0) (aB V0) b s C := by
  unfold Value.res_main_v30
  unfold conv
  rw [← padded_at, ← padded_at, ← padded_at]
  unfold aT aB Value.res_main_v5
  generalize Value.res_main_v3 V0 = Q
  pointwise [FfnStep.taps]

/-- The cube, multiplied in the reference's order. -/
theorem gelu_at (x : EReal) : FfnStep.gelu x = x * (Ideal.ofBits .f32 0x3F000000#32 * (Ideal.ofBits .f32 0x3F800000#32
    + Ideal.tanh (Ideal.ofBits .f32 0x3F4C422A#32 * (x + Ideal.ofBits .f32 0x3D372713#32 * (x * x * x))))) := by
  rw [FfnStep.gelu, mul_assoc x x x]

theorem row_at (b : Fin 4) (s : Fin 4096) (l : Fin 2048) :
    (show FVec Ideal S4x4096x2048 .f32 from Value.res_main_v52 V0) (ix3 b s l) = row (aH V0) (aU V0) (aT V0) (aB V0) (aD V0) b s l := by
  unfold Value.res_main_v52 Value.res_main_v31
  unfold row gated
  simp only [← conv_at]
  unfold aH aD
  generalize Value.res_main_v30 V0 = Q
  pointwise [gelu_at]

/-- The mean of each row of `Q`. -/
def mean (Q : FVec Ideal S4x4096x2048 .f32) : FVec Ideal S4x4096x1 .f32 :=
  Host.divf (broadcastInDim S4x4096x1 ![0, 1] bcast_S4x4096_S4x4096x1_0_1 (Host.reduceAdd Q (constant S_ .f32 0x00000000#32) reducesTo_S4x4096x2048_S4x4096_d2 h_S_))
    (broadcastInDim S4x4096x1 ![] bcast_S_S4x4096x1 (constant S_ .f32 0x45000000#32))

/-- The rows of `Q` less their means. -/
def centred (Q : FVec Ideal S4x4096x2048 .f32) : FVec Ideal S4x4096x2048 .f32 :=
  subf Q (broadcastInDim S4x4096x2048 ![0, 1, 2] bcast_S4x4096x1_S4x4096x2048_0_1_2 (mean Q))

/-- A lane vector of the norm, laid over the rows. -/
def lanes (G : FVec Ideal S4x2x2048 .f32) : FVec Ideal S4x4096x2048 .f32 :=
  broadcastInDim S4x4096x2048 ![0, 1, 2] bcast_S1x1x2048_S4x4096x2048_0_1_2 (broadcastInDim S1x1x2048 ![2] bcast_S2048_S1x1x2048_2
    (shapeCast S2048 (extractStridedSlice S1x1x2048 ![3, 1, 0] G slices_S4x2x2048_S1x1x2048_3_1_0) shapeCasts_S1x1x2048_S2048))

/-- The norm of the rows of `Q`, as the reference computes it. -/
def result (Q : FVec Ideal S4x4096x2048 .f32) (G O : FVec Ideal S4x2x2048 .f32) : FVec Ideal S16384x2048 .f32 :=
  shapeCast S16384x2048 (addf (mulf (mulf (centred Q) (broadcastInDim S4x4096x2048 ![0, 1, 2] bcast_S4x4096x1_S4x4096x2048_0_1_2
    (Host.rsqrt (addf (mean (mulf (centred Q) (centred Q))) (broadcastInDim S4x4096x1 ![] bcast_S_S4x4096x1 (constant S_ .f32 0x3727C5AC#32))))))
    (lanes G)) (lanes O)) shapeCasts_S4x4096x2048_S16384x2048

theorem result_at (Q : FVec Ideal S4x4096x2048 .f32) (G O : FVec Ideal S4x2x2048 .f32) (r : Fin 16384) (l : Fin 2048) :
    result Q G O (ix2 r l) = Trunk.norm (fun k => Q (ix3 ⟨r / 4096, by omega⟩ ⟨r % 4096, by omega⟩ k)) (G (ix3 3 1 l)) (O (ix3 3 1 l)) l := by
  pointwise! [result, mean, centred, lanes, Trunk.norm, Trunk.mean]

theorem result_OUT (G O : FVec Ideal S4x2x2048 .f32) :
    result (Value.res_main_v52 V0) G O = OUT (aH V0) (aU V0) (aT V0) (aB V0) (aD V0) G O := by
  funext j
  rw [eq_ix2 j]
  refine (result_at _ G O (j 0) (j 1)).trans ?_
  refine congrArg (fun q => Trunk.norm q (G (ix3 3 1 (j 1))) (O (ix3 3 1 (j 1))) (j 1)) (funext fun k => ?_)
  exact row_at V0 _ _ k

end Cert.FfnRef

end
-- ==== Proof.Ffn.lean ====
/- The feed-forward layer with its residual and norm: what the kernel leaves in its result is the reference's term. -/
module

public import proofs.«01_k».proof.Defs
public import proofs.«01_k».proof.Proof.Gen.Kernel2Ideal.Frame
public import proofs.«01_k».proof.Proof.FfnAcc
public import proofs.«01_k».proof.Proof.FfnRef
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Ffn

section Bridge
open Cert.Kernel2Ideal Cert.Kernel2Ideal.Gen Cert.FfnSweep Cert.FfnAcc

variable (m : (ℓ : Loc nD τ sig) → Buf (Elt Ideal) ℓ)

theorem pay3_at (x : FVec Ideal S512x2048 .f32) (r : Fin 512) (l : Fin 2048) :
    k0_pay3 (F := Ideal) x (ix2 r l) = Ideal.ofBits .f32 0x3FD744FD#32 * (x (ix2 r l) : EReal) := by
  pointwise [k0_pay3]

theorem pay6_at (y : FVec Ideal S512x2048 .f32) (g b : FVec Ideal S1x2048 .f32) (r : Fin 512) (l : Fin 2048) :
    k0_pay6 (F := Ideal) y g b (ix2 r l) = Trunk.norm (fun k => y (ix2 r k)) (g (ix2 0 l)) (b (ix2 0 l)) l := by
  pointwise! [k0_pay6, Trunk.norm, Trunk.mean]

/-- The residual of row `r` of a grid step. -/
def residual (c : Dev nD) (t : Fin cfg0.N) (r : Fin 512) (l : Fin 2048) : EReal :=
  Ideal.ofBits .f32 0x3FD744FD#32 * (show FVec Ideal S4x4096x2048 .f32 from m ((c.tc : Thread nD τ).loc main_arg0)) (ix3 (bat t) (sat t r) l)

theorem residual_at (c : Dev nD) (t : Fin cfg0.N) (r : Fin 512) (l : Fin 2048) :
    k0_pay3 (F := Ideal) (iblk m c 0 t) (ix2 r l) = residual m c t r l := by
  have ht : t.val < 192 := lt_of_lt_of_eq t.isLt N_0
  refine (pay3_at _ r l).trans (congrArg _ ((FfnOps.rows m c t r l).trans ?_))
  exact at3 _ _ _ _ _ l (by show (t.val / 6 * 512 + r.val) / 4096 = t.val / 48; omega)
    (by show (t.val / 6 * 512 + r.val) % 4096 = t.val / 6 % 8 * 512 + r.val; omega)

/-- What the scratches hold after a step that is not the last of its sweep. -/
def Sofar (c : Dev nD) (t : Fin cfg0.N) : Prop :=
  Holds m c t (outsAt0 m c t.val t.isLt).2.1 ∧ ∀ (r : Fin 512) (l : Fin 2048),
    (show FVec Ideal S512x2048 .f32 from (outsAt0 m c t.val t.isLt).2.2) (ix2 r l)
      = residual m c t r l + ∑ C ∈ Finset.range (t.val % 6 * 1024 + 1024), FfnTerms.term (show FVec Ideal S4x4096x2048 .f32 from m ((c.tc : Thread nD τ).loc main_arg0)) (show FVec Ideal S4x2048x11008 .f32 from m ((c.tc : Thread nD τ).loc main_arg1)) (show FVec Ideal S4x3x11008 .f32 from m ((c.tc : Thread nD τ).loc main_arg2)) (show FVec Ideal S4x11008 .f32 from m ((c.tc : Thread nD τ).loc main_arg3)) (show FVec Ideal S4x5504x2048 .f32 from m ((c.tc : Thread nD τ).loc main_arg4)) (bat t) (sat t r) l C

theorem bat_congr (t t' : Fin cfg0.N) (h : t.val / 6 = t'.val / 6) : bat t = bat t' := Fin.ext (by show t.val / 48 = t'.val / 48; omega)
theorem sat_congr (t t' : Fin cfg0.N) (h : t.val / 6 = t'.val / 6) (r : Fin 512) : sat t r = sat t' r :=
  Fin.ext (by show t.val / 6 % 8 * 512 + r.val = t'.val / 6 % 8 * 512 + r.val; rw [h])

/-- What a step finds, from what the step before left. -/
theorem found (c : Dev nD) (t t' : Fin cfg0.N) (h : t.val / 6 = t'.val / 6) (hs : t'.val % 6 = t.val % 6 + 1) (S : Sofar m c t) :
    Holds m c t' (outsAt0 m c t.val t.isLt).2.1 ∧ ∀ (r : Fin 512) (l : Fin 2048),
    (show FVec Ideal S512x2048 .f32 from (outsAt0 m c t.val t.isLt).2.2) (ix2 r l)
      = residual m c t' r l + ∑ C ∈ Finset.range (t'.val % 6 * 1024), FfnTerms.term (show FVec Ideal S4x4096x2048 .f32 from m ((c.tc : Thread nD τ).loc main_arg0)) (show FVec Ideal S4x2048x11008 .f32 from m ((c.tc : Thread nD τ).loc main_arg1)) (show FVec Ideal S4x3x11008 .f32 from m ((c.tc : Thread nD τ).loc main_arg2)) (show FVec Ideal S4x11008 .f32 from m ((c.tc : Thread nD τ).loc main_arg3)) (show FVec Ideal S4x5504x2048 .f32 from m ((c.tc : Thread nD τ).loc main_arg4)) (bat t') (sat t' r) l C := by
  refine ⟨holds_congr m c t t' h _ S.1, fun r l => (S.2 r l).trans ?_⟩
  unfold residual
  rw [bat_congr t t' h, sat_congr t t' h r, show t.val % 6 * 1024 + 1024 = t'.val % 6 * 1024 by omega]

theorem sofar (c : Dev nD) (t : Fin cfg0.N) : t.val % 6 ≤ 4 → Sofar m c t := by
  obtain ⟨n, hn⟩ := t
  induction n with
  | zero =>
    intro h1
    refine ⟨?_, fun r l => ?_⟩
    · rw [staged_A m c ⟨0, hn⟩ rfl h1 (by show ¬ 0 % 6 = 5; omega)]
      exact staged_holds m c _
    · refine (congrFun (acc_A m c ⟨0, hn⟩ rfl h1 (by show ¬ 0 % 6 = 5; omega)) (ix2 r l)).trans ?_
      refine four_on m c _ _ (staged_holds m c _) r l _ _ ((residual_at m c _ r l).trans ?_)
      rw [show (⟨0, hn⟩ : Fin cfg0.N).val % 6 * 1024 = 0 from rfl, Finset.range_zero, Finset.sum_empty, add_zero]
  | succ n ih =>
    intro h1
    have h1' : (n + 1) % 6 ≤ 4 := h1
    by_cases h : (n + 1) % 6 = 0
    · refine ⟨?_, fun r l => ?_⟩
      · rw [staged_A m c ⟨n + 1, hn⟩ h h1 (by show ¬ (n + 1) % 6 = 5; omega)]
        exact staged_holds m c _
      · refine (congrFun (acc_A m c ⟨n + 1, hn⟩ h h1 (by show ¬ (n + 1) % 6 = 5; omega)) (ix2 r l)).trans ?_
        refine four_on m c _ _ (staged_holds m c _) r l _ _ ((residual_at m c _ r l).trans ?_)
        rw [show (⟨n + 1, hn⟩ : Fin cfg0.N).val % 6 * 1024 = 0 from by show (n + 1) % 6 * 1024 = 0; omega, Finset.range_zero, Finset.sum_empty, add_zero]
    · have hb : n < cfg0.N := Nat.lt_of_succ_lt hn
      have F := found m c ⟨n, hb⟩ ⟨n + 1, hn⟩ (by show n / 6 = (n + 1) / 6; omega) (by show (n + 1) % 6 = n % 6 + 1; omega)
        (ih hb (by show n % 6 ≤ 4; omega))
      refine ⟨?_, fun r l => ?_⟩
      · rw [kept_B m c ⟨n + 1, hn⟩ h h1 (by show ¬ (n + 1) % 6 = 5; omega) hb]
        exact F.1
      · refine (congrFun (acc_B m c ⟨n + 1, hn⟩ h h1 (by show ¬ (n + 1) % 6 = 5; omega) hb) (ix2 r l)).trans ?_
        exact four_on m c _ _ F.1 r l _ _ (F.2 r l)

/-- The row that the last step norms. -/
theorem last (c : Dev nD) (t : Fin cfg0.N) (h : t.val % 6 = 5) (hb : t.val - 1 < cfg0.N) (r : Fin 512) (l : Fin 2048) :
    two m c t (outsAt0 m c (t.val - 1) hb).2.1 (outsAt0 m c (t.val - 1) hb).2.2 (ix2 r l) = FfnTerms.row (show FVec Ideal S4x4096x2048 .f32 from m ((c.tc : Thread nD τ).loc main_arg0)) (show FVec Ideal S4x2048x11008 .f32 from m ((c.tc : Thread nD τ).loc main_arg1)) (show FVec Ideal S4x3x11008 .f32 from m ((c.tc : Thread nD τ).loc main_arg2)) (show FVec Ideal S4x11008 .f32 from m ((c.tc : Thread nD τ).loc main_arg3)) (show FVec Ideal S4x5504x2048 .f32 from m ((c.tc : Thread nD τ).loc main_arg4)) (bat t) (sat t r) l := by
  have F := found m c ⟨t.val - 1, hb⟩ t (by show (t.val - 1) / 6 = t.val / 6; omega) (by show t.val % 6 = (t.val - 1) % 6 + 1; omega)
    (sofar m c ⟨t.val - 1, hb⟩ (by show (t.val - 1) % 6 ≤ 4; omega))
  refine (two_on m c t _ F.1 r l _ _ (F.2 r l)).trans ?_
  rw [show t.val % 6 * 1024 + 512 = 5632 by omega, FfnTerms.total]
  rfl

theorem norm_congr (q q' : Fin 2048 → EReal) (g g' b b' : EReal) (l : Fin 2048) (hq : q = q') (hg : g = g') (hb : b = b') :
    Trunk.norm q g b l = Trunk.norm q' g' b' l := by
  rw [hq, hg, hb]

/-- The block that the last step of a sweep leaves. -/
theorem out_at (c : Dev nD) (t : Fin cfg0.N) (h : t.val % 6 = 5) (r : Fin 512) (l : Fin 2048) :
    (show FVec Ideal S512x2048 .f32 from (outsAt0 m c t.val t.isLt).1) (ix2 r l)
      = Trunk.norm (FfnTerms.row (show FVec Ideal S4x4096x2048 .f32 from m ((c.tc : Thread nD τ).loc main_arg0)) (show FVec Ideal S4x2048x11008 .f32 from m ((c.tc : Thread nD τ).loc main_arg1)) (show FVec Ideal S4x3x11008 .f32 from m ((c.tc : Thread nD τ).loc main_arg2)) (show FVec Ideal S4x11008 .f32 from m ((c.tc : Thread nD τ).loc main_arg3)) (show FVec Ideal S4x5504x2048 .f32 from m ((c.tc : Thread nD τ).loc main_arg4)) (bat t) (sat t r)) ((show FVec Ideal S4x2x2048 .f32 from m ((c.tc : Thread nD τ).loc main_arg5)) (ix3 3 1 l)) ((show FVec Ideal S4x2x2048 .f32 from m ((c.tc : Thread nD τ).loc main_arg6)) (ix3 3 1 l)) l := by
  have hb : t.val - 1 < cfg0.N := Nat.lt_of_le_of_lt (Nat.sub_le _ _) t.isLt
  refine (congrFun (out_C m c t (by omega) (by omega) h hb) (ix2 r l)).trans ((pay6_at _ _ _ r l).trans ?_)
  exact norm_congr _ _ _ _ _ _ l (funext fun k => last m c t h hb r k) (FfnOps.gain m c t l) (FfnOps.offset m c t l)

/-- The result's row and lane that a block's row and lane are. -/
theorem OUT_at (c : Dev nD) (t : Fin cfg0.N) (r : Fin 512) (l : Fin 2048) (j : S16384x2048.Idx) (h0 : (j 0).val = t.val / 6 * 512 + r.val) (h1 : (j 1).val = l.val) :
    FfnTerms.OUT (show FVec Ideal S4x4096x2048 .f32 from m ((c.tc : Thread nD τ).loc main_arg0)) (show FVec Ideal S4x2048x11008 .f32 from m ((c.tc : Thread nD τ).loc main_arg1)) (show FVec Ideal S4x3x11008 .f32 from m ((c.tc : Thread nD τ).loc main_arg2)) (show FVec Ideal S4x11008 .f32 from m ((c.tc : Thread nD τ).loc main_arg3)) (show FVec Ideal S4x5504x2048 .f32 from m ((c.tc : Thread nD τ).loc main_arg4)) (show FVec Ideal S4x2x2048 .f32 from m ((c.tc : Thread nD τ).loc main_arg5)) (show FVec Ideal S4x2x2048 .f32 from m ((c.tc : Thread nD τ).loc main_arg6)) j = Trunk.norm (FfnTerms.row (show FVec Ideal S4x4096x2048 .f32 from m ((c.tc : Thread nD τ).loc main_arg0)) (show FVec Ideal S4x2048x11008 .f32 from m ((c.tc : Thread nD τ).loc main_arg1)) (show FVec Ideal S4x3x11008 .f32 from m ((c.tc : Thread nD τ).loc main_arg2)) (show FVec Ideal S4x11008 .f32 from m ((c.tc : Thread nD τ).loc main_arg3)) (show FVec Ideal S4x5504x2048 .f32 from m ((c.tc : Thread nD τ).loc main_arg4)) (bat t) (sat t r)) ((show FVec Ideal S4x2x2048 .f32 from m ((c.tc : Thread nD τ).loc main_arg5)) (ix3 3 1 l)) ((show FVec Ideal S4x2x2048 .f32 from m ((c.tc : Thread nD τ).loc main_arg6)) (ix3 3 1 l)) l := by
  have ht : t.val < 192 := lt_of_lt_of_eq t.isLt N_0
  have e1 : j 1 = l := Fin.ext h1
  have eb : (⟨(j 0 : ℕ) / 4096, by have : (j 0 : ℕ) < 16384 := (j 0).isLt; omega⟩ : Fin 4) = bat t :=
    Fin.ext (by show (j 0).val / 4096 = t.val / 48; rw [h0]; omega)
  have es : (⟨(j 0 : ℕ) % 4096, by omega⟩ : Fin 4096) = sat t r :=
    Fin.ext (by show (j 0).val % 4096 = t.val / 6 % 8 * 512 + r.val; rw [h0]; omega)
  unfold FfnTerms.OUT
  rw [e1, eb, es]

theorem point (c : Dev nD) (t : Fin cfg0.N) (h : t.val % 6 = 5) (y : S512x2048.Idx) :
    (show FVec Ideal S512x2048 .f32 from (outsAt0 m c t.val t.isLt).1) y
      = FfnTerms.OUT (show FVec Ideal S4x4096x2048 .f32 from m ((c.tc : Thread nD τ).loc main_arg0)) (show FVec Ideal S4x2048x11008 .f32 from m ((c.tc : Thread nD τ).loc main_arg1)) (show FVec Ideal S4x3x11008 .f32 from m ((c.tc : Thread nD τ).loc main_arg2)) (show FVec Ideal S4x11008 .f32 from m ((c.tc : Thread nD τ).loc main_arg3)) (show FVec Ideal S4x5504x2048 .f32 from m ((c.tc : Thread nD τ).loc main_arg4)) (show FVec Ideal S4x2x2048 .f32 from m ((c.tc : Thread nD τ).loc main_arg5)) (show FVec Ideal S4x2x2048 .f32 from m ((c.tc : Thread nD τ).loc main_arg6)) (((cfg0.win 11).blk t).view.emb y) := by
  refine Eq.trans (congrArg _ (eq_ix2 y)) ((out_at m c t h (y 0) (y 1)).trans (OUT_at m c t (y 0) (y 1) _ ?_ ?_).symm)
  all_goals (blk_simp [FfnOps.idx t] <;> try omega)

theorem final (c : Dev nD) : (dats m 0 c).arrAt 11 (cfgs 0).N = FfnTerms.OUT (show FVec Ideal S4x4096x2048 .f32 from m ((c.tc : Thread nD τ).loc main_arg0)) (show FVec Ideal S4x2048x11008 .f32 from m ((c.tc : Thread nD τ).loc main_arg1)) (show FVec Ideal S4x3x11008 .f32 from m ((c.tc : Thread nD τ).loc main_arg2)) (show FVec Ideal S4x11008 .f32 from m ((c.tc : Thread nD τ).loc main_arg3)) (show FVec Ideal S4x5504x2048 .f32 from m ((c.tc : Thread nD τ).loc main_arg4)) (show FVec Ideal S4x2x2048 .f32 from m ((c.tc : Thread nD τ).loc main_arg5)) (show FVec Ideal S4x2x2048 .f32 from m ((c.tc : Thread nD τ).loc main_arg6)) := by
  refine (dats m 0 c).arrAt_eq_of_covers 11 _ (by decide +kernel) fun t ht y => ?_
  have h5 : t.val % 6 = 5 := (flush0_11 t).mp ht
  blk_simp
  rw [after0_11]
  exact point m c t h5 y

end Bridge

set_option maxHeartbeats 2000000 in
theorem algebraic : Cert.algebraic_Kernel2Ideal_Reference2Ideal := by
  pair_intro
  · run_from Cert.Kernel2Ideal.Value.run_blocks m g
  · run_from Cert.Reference2Ideal.Value.run m' g'
    obtain ⟨h0, h1, h2, h3, h4, h5, h6⟩ := hagree c
    refine Eq.trans ?_ (final m c).symm
    rw [← h0, ← h1, ← h2, ← h3, ← h4, ← h5, ← h6]
    exact FfnRef.result_OUT _ _ _

end Cert.Ffn

end
-- ==== Proof.OutProj.lean ====
/- The output projection with its residual and norm: what the kernel leaves in its result is the reference's term. -/
module

public import proofs.«01_k».proof.Defs
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Norm
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutProj

section Pure
open Cert.Kernel3Ideal Cert.Kernel3Ideal.Gen

/-- The row that the kernel norms. -/
def row (H : FVec Ideal S256x2048 .f32) (A : FVec Ideal S256x2048 .bf16) (W : FVec Ideal S1x2048x2048 .bf16)
    (r : Fin 256) (l : Fin 2048) : EReal :=
  Ideal.ofBits .f32 0x3FD744FD#32 * H (ix2 r l) + ∑ k : Fin 2048, A (ix2 r k) * W (ix3 0 k l)

theorem lower_at (H : FVec Ideal S256x2048 .f32) (A : FVec Ideal S256x2048 .bf16) (W : FVec Ideal S1x2048x2048 .bf16)
    (G B : FVec Ideal S1x2048 .f32) (r : Fin 256) (l : Fin 2048) :
    k0_pay1 (F := Ideal) H A W G B (ix2 r l) = Trunk.norm (row H A W r) (G (ix2 0 l)) (B (ix2 0 l)) l := by
  pointwise! [k0_pay1, Trunk.norm, Trunk.mean, row]

theorem upper_at (H : FVec Ideal S256x2048 .f32) (A : FVec Ideal S256x2048 .bf16) (W : FVec Ideal S1x2048x2048 .bf16)
    (G B : FVec Ideal S1x2048 .f32) (r : Fin 256) (l : Fin 2048) :
    k0_pay2 (F := Ideal) H A W G B (ix2 r l) = Trunk.norm (row H A W r) (G (ix2 0 l)) (B (ix2 0 l)) l := by
  pointwise! [k0_pay2, Trunk.norm, Trunk.mean, row]

end Pure

section Ref
open Cert.Reference3Ideal Cert.Reference3Ideal.Gen

/-- The row that the reference norms. -/
def refRow (A : FVec Ideal S4x4096x2048 .bf16) (H : FVec Ideal S4x4096x2048 .f32) (W : FVec Ideal S2x2048x2048 .f32)
    (b : Fin 4) (s : Fin 4096) (l : Fin 2048) : EReal :=
  Ideal.ofBits .f32 0x3FD744FD#32 * H (ix3 b s l) + ∑ k : Fin 2048, A (ix3 b s k) * W (ix3 1 k l)

theorem ref_at (m : (ℓ : Loc nD τ sig) → Buf (Elt Ideal) ℓ) (c : Dev nD) (r : Fin 16384) (l : Fin 2048) :
    (show FVec Ideal S16384x2048 .f32 from Value.res_main_v35 m c) (ix2 r l)
      = Trunk.norm (refRow (m ((c.tc : Thread nD τ).loc main_arg0)) (m ((c.tc : Thread nD τ).loc main_arg1))
          (m ((c.tc : Thread nD τ).loc main_arg2)) ⟨r / 4096, by omega⟩ ⟨r % 4096, by omega⟩)
        ((show FVec Ideal S4x2x2048 .f32 from m ((c.tc : Thread nD τ).loc main_arg3)) (ix3 3 0 l))
        ((show FVec Ideal S4x2x2048 .f32 from m ((c.tc : Thread nD τ).loc main_arg4)) (ix3 3 0 l)) l := by
  unfold Value.res_main_v35
  pointwise! [Trunk.norm, Trunk.mean, refRow]

end Ref

section Bridge
open Cert.Kernel3Ideal Cert.Kernel3Ideal.Gen

variable (m : (ℓ : Loc nD τ sig) → Buf (Elt Ideal) ℓ)

theorem idx : ∀ t : Fin cfg0.N, win0_0.index t = ![t.val, 0] ∧ win0_1.index t = ![1, 0, 0] ∧ win0_2.index t = ![t.val, 0]
    ∧ win0_3.index t = ![0, 0] ∧ win0_4.index t = ![0, 0] ∧ win0_5.index t = ![t.val, 0] :=
  (by decide +kernel : ∀ t : Fin grid0.N, _)

/-- The result array as one function of the arguments. -/
def OUT (A : FVec Ideal S4x4096x2048 .bf16) (H : FVec Ideal S4x4096x2048 .f32) (W : FVec Ideal S2x2048x2048 .f32)
    (G B : FVec Ideal S4x2x2048 .f32) : FVec Ideal S16384x2048 .f32 := fun j =>
  Trunk.norm (refRow A H W ⟨(j 0 : ℕ) / 4096, by have : (j 0 : ℕ) < 16384 := (j 0).isLt; omega⟩
    ⟨(j 0 : ℕ) % 4096, by omega⟩) (G (ix3 3 0 (j 1))) (B (ix3 3 0 (j 1))) (j 1)

/-- What either half's row is, at the array's row. -/
theorem half (c : Dev nD) (t : Fin cfg0.N) (y : S512x2048.Idx) (j : S16384x2048.Idx)
    (hj0 : (j 0 : ℕ) = t.val * 512 + y 0) (hj1 : (j 1 : ℕ) = y 1) :
    Trunk.norm (fun l => Ideal.ofBits .f32 0x3FD744FD#32 * (show FVec Ideal S512x2048 .f32 from iblk m c 2 t) (ix2 (y 0) l)
        + ∑ k : Fin 2048, (show FVec Ideal S512x2048 .bf16 from iblk m c 0 t) (ix2 (y 0) k)
          * (show FVec Ideal S1x2048x2048 .bf16 from iblk m c 1 t) (ix3 0 k l))
      ((show FVec Ideal S1x2048 .f32 from iblk m c 3 t) (ix2 0 (y 1))) ((show FVec Ideal S1x2048 .f32 from iblk m c 4 t) (ix2 0 (y 1))) (y 1)
    = OUT (m ((c : Thread nD τ).loc main_arg0)) (m ((c : Thread nD τ).loc main_arg1)) (m ((c : Thread nD τ).loc main_arg2))
        (m ((c : Thread nD τ).loc main_arg3)) (m ((c : Thread nD τ).loc main_arg4)) j := by
  pointwise [OUT, refRow, Trunk.norm, Trunk.mean]
  blk_point [iblk, V, idx t]

theorem point (c : Dev nD) (t : Fin cfg0.N) (y : S512x2048.Idx) :
    out0_5 (iblk m c 0 t) (iblk m c 1 t) (iblk m c 2 t) (iblk m c 3 t) (iblk m c 4 t) y
    = OUT (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb y) := by
  refine Eq.trans ?_ (half m c t y _ ?_ ?_)
  · canon_tiles x h
    all_goals (open_payloads; pointwise [Trunk.norm, Trunk.mean]; blk_point [])
  all_goals (blk_simp [idx t] <;> try omega)

theorem final (c : Dev nD) : (dats m 0 c).arrAt 5 (cfgs 0).N
    = OUT (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  exact point m c t y

end Bridge

section Link
open Cert.Reference3Ideal Cert.Reference3Ideal.Gen

/-- The reference's term is that function too. -/
theorem ref (m : (ℓ : Loc nD τ sig) → Buf (Elt Ideal) ℓ) (c : Dev nD) : Value.res_main_v35 m c
    = OUT (m ((c : Thread nD τ).loc main_arg0)) (m ((c : Thread nD τ).loc main_arg1)) (m ((c : Thread nD τ).loc main_arg2))
        (m ((c : Thread nD τ).loc main_arg3)) (m ((c : Thread nD τ).loc main_arg4)) := by
  funext j
  rw [eq_ix2 j]
  exact ref_at m c (j 0) (j 1)

end Link

theorem algebraic : Cert.algebraic_Kernel3Ideal_Reference3Ideal := by
  pair_intro
  · run_from Cert.Kernel3Ideal.Value.run_blocks m g
  · run_from Cert.Reference3Ideal.Value.run m' g'
    obtain ⟨h0, h1, h2, h3, h4⟩ := hagree c
    refine (ref m' c).trans (Eq.trans ?_ (final m c).symm)
    rw [h0, h1, h2, h3, h4]

end Cert.OutProj

end
-- ==== Proof.QProj.lean ====
/- The projection to scaled queries: what the kernel leaves in its result is the reference's term. -/
module

public import proofs.«01_k».proof.Defs
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Consts
public import Idealize.ShloMosaic.Lib.Claim
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.QProj

section Bridge
open Cert.Kernel4Ideal Cert.Kernel4Ideal.Gen

/-- The result array as one function of the arguments. -/
def OUT (H : FVec Ideal S4x4096x2048 .f32) (W : FVec Ideal S2x2048x2048 .f32) : FVec Ideal S16384x2048 .bf16 := fun j =>
  (∑ k : Fin 2048, (H (ix3 ⟨(j 0 : ℕ) / 4096, by have : (j 0 : ℕ) < 16384 := (j 0).isLt; omega⟩ ⟨(j 0 : ℕ) % 4096, by omega⟩ k) : EReal)
    * W (ix3 1 k (j 1))) * (((Real.sqrt 128)⁻¹ * (Real.log 2)⁻¹ : ℝ) : EReal)

theorem idx : ∀ t : Fin cfg0.N, win0_0.index t = ![t.val / 2, 0] ∧ win0_1.index t = ![1, 0, t.val % 2] ∧ win0_2.index t = ![t.val / 2, t.val % 2] :=
  (by decide +kernel : ∀ t : Fin grid0.N, _)

variable (m : (ℓ : Loc nD τ sig) → Buf (Elt Ideal) ℓ)

/-- The rows that grid step `t` multiplies. -/
def rows (c : Dev nD) (t : Fin cfg0.N) : FVec Ideal S1024x2048 .bf16 := k0_pay1 (F := Ideal) (iblk m c 0 t)

theorem factor : Named.named (F := Ideal) (φ := .f32) κ "rootlog2e" 0x3E0293EE#32 = (((Real.sqrt 128)⁻¹ * (Real.log 2)⁻¹ : ℝ) : EReal) :=
  IdealRules.named_const.ideal_named_scalar _ _ _ _ rfl

theorem flag : ∀ t : Fin cfg0.N, Scalar.cmpi .slt (BitVec.ofNat 32 (grid0.coords t 1).val) 2#32 = 1#1 :=
  (by decide +kernel : ∀ t : Fin grid0.N, Scalar.cmpi .slt (BitVec.ofNat 32 (grid0.coords t 1).val) 2#32 = 1#1)

theorem pay (i : grid0.Coords) (h : Scalar.cmpi .slt (BitVec.ofNat 32 (i 1).val) 2#32 = 1#1) (X : FVec Ideal S1024x2048 .bf16)
    (W : FVec Ideal S1x2048x1024 .bf16) (r : Fin 1024) (l : Fin 1024) :
    k0_pay2 (F := Ideal) i X W (ix2 r l) = (∑ k : Fin 2048, (X (ix2 r k) : EReal) * W (ix3 0 k l))
      * (((Real.sqrt 128)⁻¹ * (Real.log 2)⁻¹ : ℝ) : EReal) := by
  pointwise [k0_pay2, h]
  rw [factor]

theorem rows_at (c : Dev nD) (t : Fin cfg0.N) (r : Fin 1024) (k : Fin 2048) : rows m c t (ix2 r k)
    = (show FVec Ideal S4x4096x2048 .f32 from m ((c : Thread nD τ).loc main_arg0))
      (ix3 ⟨(t.val / 2 * 1024 + r.val) / 4096, by have : t.val < 32 := lt_of_lt_of_eq t.isLt N_0; omega⟩ ⟨(t.val / 2 * 1024 + r.val) % 4096, by omega⟩ k) := by
  pointwise [rows, k0_pay1]
  blk_point [iblk, V, idx t]

theorem rows_congr (c : Dev nD) (t t' : Fin cfg0.N) (h : t.val / 2 = t'.val / 2) : rows m c t = rows m c t' := by
  funext j
  rw [eq_ix2 j]
  refine (rows_at m c t (j 0) (j 1)).trans (Eq.trans ?_ (rows_at m c t' (j 0) (j 1)).symm)
  simp only [h]

/-- The carried block holds the rows of its grid row. -/
theorem carried (c : Dev nD) (t : Fin cfg0.N) : (outsAt0 m c t.val t.isLt).2 = rows m c t := by
  obtain ⟨n, hn⟩ := t
  induction n with
  | zero =>
    rw [outsAt0_A m c ⟨0, hn⟩ (by rfl)]
    frame_out
    rfl
  | succ n ih =>
    by_cases h : (n + 1) % 2 = 0
    · rw [outsAt0_A m c ⟨n + 1, hn⟩ h]
      frame_out
      rfl
    · rw [outsAt0_B m c ⟨n + 1, hn⟩ h]
      refine (ih (Nat.lt_of_succ_lt hn)).trans (rows_congr m c _ _ ?_)
      show n / 2 = (n + 1) / 2
      omega

theorem before (c : Dev nD) (t : Fin cfg0.N) (h : ¬ t.val % 2 = 0) (hb : t.val - 1 < cfg0.N) :
    (outsAt0 m c (t.val - 1) hb).2 = rows m c t := by
  refine (carried m c ⟨t.val - 1, hb⟩).trans (rows_congr m c _ _ ?_)
  show (t.val - 1) / 2 = t.val / 2
  omega

theorem block (c : Dev nD) (t : Fin cfg0.N) (r : Fin 1024) (l : Fin 1024) (j : S16384x2048.Idx)
    (h0 : (j 0 : ℕ) = t.val / 2 * 1024 + r.val) (h1 : (j 1 : ℕ) = t.val % 2 * 1024 + l.val) :
    k0_pay2 (F := Ideal) (grid0.coords t) (rows m c t) (iblk m c 1 t) (ix2 r l) = OUT (m ((c : Thread nD τ).loc main_arg0)) (m ((c : Thread nD τ).loc main_arg1)) j := by
  rw [pay _ (flag t), OUT]
  congr 1
  refine Finset.sum_congr rfl fun k _ => ?_
  rw [rows_at]
  blk_point [iblk, V, idx t]

theorem point (c : Dev nD) (t : Fin cfg0.N) (y) :
    (outsAt0 m c t.val t.isLt).1 y = OUT (m ((c : Thread nD τ).loc main_arg0)) (m ((c : Thread nD τ).loc main_arg1)) (((cfg0.win 2).blk t).view.emb y) := by
  refine Eq.trans (b := k0_pay2 (F := Ideal) (grid0.coords t) (rows m c t) (iblk m c 1 t) y) ?_ ?_
  · by_cases h : t.val % 2 = 0
    · rw [outsAt0_A m c t h]
      frame_out
      rfl
    · rw [outsAt0_B m c t h]
      frame_out
      rw [before m c t h, read_unread_whole]
  refine Eq.trans (congrArg _ (eq_ix2 y)) (block m c t (y 0) (y 1) _ ?_ ?_)
  all_goals (blk_simp [idx t] <;> try omega)

theorem final (c : Dev nD) : (dats m 0 c).arrAt 2 (cfgs 0).N = OUT (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Bridge

section Link
open Cert.Reference4Ideal Cert.Reference4Ideal.Gen

/-- The reference's term is that function too. -/
theorem ref (H : FVec Ideal S4x4096x2048 .f32) (W : FVec Ideal S2x2048x2048 .f32) :
    (truncf .bf16 (shapeCast _ (mulf (Host.dotGeneral dot_S4x4096x2048_S2048x2048_S4x4096x2048_2_0_01_1_n_n none H (shapeCast _ (extractStridedSlice S1x2048x2048 ![1, 0, 0] W slices_S2x2048x2048_S1x2048x2048_1_0_0) shapeCasts_S1x2048x2048_S2048x2048)) (broadcastInDim S4x4096x2048 ![] bcast_S_S4x4096x2048 (Host.divf (Host.rsqrt (constant (F := Ideal) S_ .f32 0x43000000#32)) (Host.log (constant (F := Ideal) S_ .f32 0x40000000#32))))) shapeCasts_S4x4096x2048_S16384x2048) bitsLt_bf16_f32 : FVec Ideal S16384x2048 .bf16) = OUT H W := by
  funext j
  rw [eq_ix2 j]
  pointwise [OUT]
  rw [Consts.scale]

end Link

theorem algebraic : Cert.algebraic_Kernel4Ideal_Reference4Ideal := by
  pair_intro
  · run_from Cert.Kernel4Ideal.Value.run_blocks m g
  · run_from Cert.Reference4Ideal.Value.run m' g'
    exact (ref _ _).trans (final m c).symm

end Cert.QProj

end
-- ==== Proof.KvProj.lean ====
/- The projection to keys and values: what the kernel leaves in its result is the reference's term. -/
module

public import proofs.«01_k».proof.Defs
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Consts
public import Idealize.ShloMosaic.Lib.Claim
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KvProj

section Bridge
open Cert.Kernel5Ideal Cert.Kernel5Ideal.Gen

/-- The result array as one function of the arguments. -/
def OUT (H : FVec Ideal S4x4096x2048 .f32) (W : FVec Ideal S2048x1024 .f32) : FVec Ideal S16384x1024 .bf16 := fun j =>
  (∑ k : Fin 2048, (H (ix3 ⟨(j 0 : ℕ) / 4096, by have : (j 0 : ℕ) < 16384 := (j 0).isLt; omega⟩ ⟨(j 0 : ℕ) % 4096, by omega⟩ k) : EReal)
    * W (ix2 k (j 1)))

theorem idx : ∀ t : Fin cfg0.N, win0_0.index t = ![t.val, 0] ∧ win0_1.index t = ![0, 0, 0] ∧ win0_2.index t = ![t.val, 0] :=
  (by decide +kernel : ∀ t : Fin grid0.N, _)

variable (m : (ℓ : Loc nD τ sig) → Buf (Elt Ideal) ℓ)

/-- The rows that grid step `t` multiplies. -/
def rows (c : Dev nD) (t : Fin cfg0.N) : FVec Ideal S1024x2048 .bf16 := k0_pay1 (F := Ideal) (iblk m c 0 t)

theorem pay (X : FVec Ideal S1024x2048 .bf16)
    (W : FVec Ideal S1x2048x1024 .bf16) (r : Fin 1024) (l : Fin 1024) :
    k0_pay2 (F := Ideal) X W (ix2 r l) = ∑ k : Fin 2048, (X (ix2 r k) : EReal) * W (ix3 0 k l) := by
  pointwise [k0_pay2]

theorem rows_at (c : Dev nD) (t : Fin cfg0.N) (r : Fin 1024) (k : Fin 2048) : rows m c t (ix2 r k)
    = (show FVec Ideal S4x4096x2048 .f32 from m ((c : Thread nD τ).loc main_arg0))
      (ix3 ⟨(t.val / 1 * 1024 + r.val) / 4096, by have : t.val < 16 := lt_of_lt_of_eq t.isLt N_0; omega⟩ ⟨(t.val / 1 * 1024 + r.val) % 4096, by omega⟩ k) := by
  pointwise [rows, k0_pay1]
  blk_point [iblk, V, idx t]

theorem rows_congr (c : Dev nD) (t t' : Fin cfg0.N) (h : t.val / 1 = t'.val / 1) : rows m c t = rows m c t' := by
  funext j
  rw [eq_ix2 j]
  refine (rows_at m c t (j 0) (j 1)).trans (Eq.trans ?_ (rows_at m c t' (j 0) (j 1)).symm)
  simp only [h]

theorem block (c : Dev nD) (t : Fin cfg0.N) (r : Fin 1024) (l : Fin 1024) (j : S16384x1024.Idx)
    (h0 : (j 0 : ℕ) = t.val * 1024 + r.val) (h1 : (j 1 : ℕ) = l.val) :
    k0_pay2 (F := Ideal) (rows m c t) (iblk m c 1 t) (ix2 r l) = OUT (m ((c : Thread nD τ).loc main_arg0)) (m ((c : Thread nD τ).loc main_arg1)) j := by
  rw [pay , OUT]
  refine Finset.sum_congr rfl fun k _ => ?_
  rw [rows_at]
  blk_point [iblk, V, idx t]

theorem point (c : Dev nD) (t : Fin cfg0.N) (y) :
    outsAt0 m c t y = OUT (m ((c : Thread nD τ).loc main_arg0)) (m ((c : Thread nD τ).loc main_arg1)) (((cfg0.win 2).blk t).view.emb y) := by
  unfold outsAt0
  frame_out
  refine Eq.trans (congrArg _ (eq_ix2 y)) (block m c t (y 0) (y 1) _ ?_ ?_)
  all_goals (blk_simp [idx t] <;> try omega)

theorem final (c : Dev nD) : (dats m 0 c).arrAt 2 (cfgs 0).N = OUT (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Bridge

section Link
open Cert.Reference5Ideal Cert.Reference5Ideal.Gen

/-- The reference's term is that function too. -/
theorem ref (H : FVec Ideal S4x4096x2048 .f32) (W : FVec Ideal S2048x1024 .f32) :
    (truncf .bf16 (shapeCast _ (Host.dotGeneral dot_S4x4096x2048_S2048x1024_S4x4096x1024_2_0_01_1_n_n none H W) shapeCasts_S4x4096x1024_S16384x1024) bitsLt_bf16_f32 : FVec Ideal S16384x1024 .bf16) = OUT H W := by
  funext j
  rw [eq_ix2 j]
  pointwise [OUT]

end Link

theorem algebraic : Cert.algebraic_Kernel5Ideal_Reference5Ideal := by
  pair_intro
  · run_from Cert.Kernel5Ideal.Value.run_blocks m g
  · run_from Cert.Reference5Ideal.Value.run m' g'
    exact (ref _ _).trans (final m c).symm

end Cert.KvProj

end
-- ==== Proof.QkvProj.lean ====
/- The projection of a block-sparse layer: what the kernel leaves in its result is the reference's term. -/
module

public import proofs.«01_k».proof.Defs
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Consts
public import Idealize.ShloMosaic.Lib.Claim
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.QkvProj

section Bridge
open Cert.Kernel6Ideal Cert.Kernel6Ideal.Gen

/-- The result array as one function of the arguments. -/
def OUT (H : FVec Ideal S4x4096x2048 .f32) (W : FVec Ideal S2x2048x6144 .f32) : FVec Ideal S4x12x4096x512 .bf16 := fun j =>
  (∑ k : Fin 2048, (H (ix3 (j 0) (j 2) k) : EReal) * W (ix3 0 k ⟨(j 1 : ℕ) * 512 + (j 3 : ℕ), by
      have h1 : (j 1 : ℕ) < 12 := (j 1).isLt
      have h3 : (j 3 : ℕ) < 512 := (j 3).isLt
      omega⟩)) * (if (j 1 : ℕ) < 4 then (((Real.sqrt 128)⁻¹ * (Real.log 2)⁻¹ : ℝ) : EReal) else 1)

theorem idx : ∀ t : Fin cfg0.N, win0_0.index t = ![t.val / 6, 0] ∧ win0_1.index t = ![0, 0, t.val % 6] ∧ win0_2.index t = ![t.val / 24, t.val % 6, t.val / 6 % 4, 0] :=
  (by decide +kernel : ∀ t : Fin grid0.N, _)

variable (m : (ℓ : Loc nD τ sig) → Buf (Elt Ideal) ℓ)

/-- The rows that grid step `t` multiplies. -/
def rows (c : Dev nD) (t : Fin cfg0.N) : FVec Ideal S1024x2048 .bf16 := k0_pay1 (F := Ideal) (iblk m c 0 t)

theorem factor : Named.named (F := Ideal) (φ := .f32) κ "rootlog2e" 0x3E0293EE#32 = (((Real.sqrt 128)⁻¹ * (Real.log 2)⁻¹ : ℝ) : EReal) :=
  IdealRules.named_const.ideal_named_scalar _ _ _ _ rfl

theorem flag : ∀ t : Fin cfg0.N, Scalar.cmpi .slt (BitVec.ofNat 32 (grid0.coords t 1).val) 2#32 = BitVec.ofBool (decide (t.val % 6 < 2)) :=
  (by decide +kernel : ∀ t : Fin grid0.N, Scalar.cmpi .slt (BitVec.ofNat 32 (grid0.coords t 1).val) 2#32 = BitVec.ofBool (decide (t.val % 6 < 2)))

theorem pay (i : grid0.Coords) (p : Prop) [Decidable p] (h : Scalar.cmpi .slt (BitVec.ofNat 32 (i 1).val) 2#32 = BitVec.ofBool (decide p)) (X : FVec Ideal S1024x2048 .bf16)
    (W : FVec Ideal S1x2048x1024 .bf16) (r : Fin 1024) (l : Fin 1024) :
    k0_pay2 (F := Ideal) i X W (ix2 r l) = (∑ k : Fin 2048, (X (ix2 r k) : EReal) * W (ix3 0 k l))
      * (if p then (((Real.sqrt 128)⁻¹ * (Real.log 2)⁻¹ : ℝ) : EReal) else 1) := by
  pointwise [k0_pay2, h]
  rw [factor]

theorem lower (i : grid0.Coords) (X : FVec Ideal S1024x2048 .bf16) (W : FVec Ideal S1x2048x1024 .bf16) (r : Fin 1024) (l : Fin 512) :
    k0_pay3 (F := Ideal) i X W (ix4 0 0 r l) = k0_pay2 (F := Ideal) i X W (ix2 r ⟨l.val, by omega⟩) := by
  pointwise [k0_pay3]

theorem upper (i : grid0.Coords) (X : FVec Ideal S1024x2048 .bf16) (W : FVec Ideal S1x2048x1024 .bf16) (r : Fin 1024) (l : Fin 512) :
    k0_pay4 (F := Ideal) i X W (ix4 0 0 r l) = k0_pay2 (F := Ideal) i X W (ix2 r ⟨512 + l.val, by omega⟩) := by
  pointwise [k0_pay4]

theorem rows_at (c : Dev nD) (t : Fin cfg0.N) (r : Fin 1024) (k : Fin 2048) : rows m c t (ix2 r k)
    = (show FVec Ideal S4x4096x2048 .f32 from m ((c : Thread nD τ).loc main_arg0))
      (ix3 ⟨(t.val / 6 * 1024 + r.val) / 4096, by have : t.val < 96 := lt_of_lt_of_eq t.isLt N_0; omega⟩ ⟨(t.val / 6 * 1024 + r.val) % 4096, by omega⟩ k) := by
  pointwise [rows, k0_pay1]
  blk_point [iblk, V, idx t]

theorem rows_congr (c : Dev nD) (t t' : Fin cfg0.N) (h : t.val / 6 = t'.val / 6) : rows m c t = rows m c t' := by
  funext j
  rw [eq_ix2 j]
  refine (rows_at m c t (j 0) (j 1)).trans (Eq.trans ?_ (rows_at m c t' (j 0) (j 1)).symm)
  simp only [h]

/-- The carried block holds the rows of its grid row. -/
theorem carried (c : Dev nD) (t : Fin cfg0.N) : (outsAt0 m c t.val t.isLt).2 = rows m c t := by
  obtain ⟨n, hn⟩ := t
  induction n with
  | zero =>
    rw [outsAt0_A m c ⟨0, hn⟩ (by rfl)]
    frame_out
    rfl
  | succ n ih =>
    by_cases h : (n + 1) % 6 = 0
    · rw [outsAt0_A m c ⟨n + 1, hn⟩ h]
      frame_out
      rfl
    · rw [outsAt0_B m c ⟨n + 1, hn⟩ h]
      refine (ih (Nat.lt_of_succ_lt hn)).trans (rows_congr m c _ _ ?_)
      show n / 6 = (n + 1) / 6
      omega

theorem before (c : Dev nD) (t : Fin cfg0.N) (h : ¬ t.val % 6 = 0) (hb : t.val - 1 < cfg0.N) :
    (outsAt0 m c (t.val - 1) hb).2 = rows m c t := by
  refine (carried m c ⟨t.val - 1, hb⟩).trans (rows_congr m c _ _ ?_)
  show (t.val - 1) / 6 = t.val / 6
  omega

theorem unit4 (x : S1x1x1024x512.Idx) : x = ix4 0 0 (x 2) (x 3) := by
  funext a
  match a with
  | ⟨0, _⟩ => exact Fin.ext (Nat.lt_one_iff.mp (x 0).isLt)
  | ⟨1, _⟩ => exact Fin.ext (Nat.lt_one_iff.mp (x 1).isLt)
  | ⟨2, _⟩ => rfl
  | ⟨3, _⟩ => rfl

theorem block0 (c : Dev nD) (t : Fin cfg0.N) (r : Fin 1024) (l : Fin 512) (j : S4x12x4096x512.Idx)
    (h0 : (j 0 : ℕ) = t.val / 24) (h1 : (j 1 : ℕ) = t.val % 6 * 2 + 0) (h2 : (j 2 : ℕ) = t.val / 6 % 4 * 1024 + r.val) (h3 : (j 3 : ℕ) = l.val) :
    k0_pay3 (F := Ideal) (grid0.coords t) (rows m c t) (iblk m c 1 t) (ix4 0 0 r l) = OUT (m ((c : Thread nD τ).loc main_arg0)) (m ((c : Thread nD τ).loc main_arg1)) j := by
  rw [lower, pay _ _ (flag t), OUT]
  have e : (t.val % 6 < 2) = ((j 1 : ℕ) < 4) := propext (by omega)
  simp only [e]
  congr 1
  refine Finset.sum_congr rfl fun k _ => ?_
  rw [rows_at]
  blk_point [iblk, V, idx t]

theorem block1 (c : Dev nD) (t : Fin cfg0.N) (r : Fin 1024) (l : Fin 512) (j : S4x12x4096x512.Idx)
    (h0 : (j 0 : ℕ) = t.val / 24) (h1 : (j 1 : ℕ) = t.val % 6 * 2 + 1) (h2 : (j 2 : ℕ) = t.val / 6 % 4 * 1024 + r.val) (h3 : (j 3 : ℕ) = l.val) :
    k0_pay4 (F := Ideal) (grid0.coords t) (rows m c t) (iblk m c 1 t) (ix4 0 0 r l) = OUT (m ((c : Thread nD τ).loc main_arg0)) (m ((c : Thread nD τ).loc main_arg1)) j := by
  rw [upper, pay _ _ (flag t), OUT]
  have e : (t.val % 6 < 2) = ((j 1 : ℕ) < 4) := propext (by omega)
  simp only [e]
  congr 1
  refine Finset.sum_congr rfl fun k _ => ?_
  rw [rows_at]
  blk_point [iblk, V, idx t]

theorem point (c : Dev nD) (t : Fin cfg0.N) (y) :
    (outsAt0 m c t.val t.isLt).1 y = OUT (m ((c : Thread nD τ).loc main_arg0)) (m ((c : Thread nD τ).loc main_arg1)) (((cfg0.win 2).blk t).view.emb y) := by
  have key : (outsAt0 m c t.val t.isLt).1 y = View.canon
      [⟨Rect.unit ![0, 1, 0, 0] ![1, 1, 1024, 512] inb_S1x2x1024x512_S1x1x1024x512_0_1_0_0, k0_pay4 (F := Ideal) (grid0.coords t) (rows m c t) (iblk m c 1 t)⟩,
        ⟨Rect.unit ![0, 0, 0, 0] ![1, 1, 1024, 512] inb_S1x2x1024x512_S1x1x1024x512_0_0_0_0, k0_pay3 (F := Ideal) (grid0.coords t) (rows m c t) (iblk m c 1 t)⟩] y := by
    by_cases h : t.val % 6 = 0
    · rw [outsAt0_A m c t h]
      frame_out
      rfl
    · rw [outsAt0_B m c t h]
      frame_out
      rw [before m c t h, read_unread_whole]
  rw [key]
  canon_tiles x h
  · refine Eq.trans (congrArg _ (unit4 x)) (block1 m c t (x 2) (x 3) _ ?_ ?_ ?_ ?_)
    all_goals (blk_simp [idx t] <;> try omega)
  · refine Eq.trans (congrArg _ (unit4 x)) (block0 m c t (x 2) (x 3) _ ?_ ?_ ?_ ?_)
    all_goals (blk_simp [idx t] <;> try omega)

theorem final (c : Dev nD) : (dats m 0 c).arrAt 2 (cfgs 0).N = OUT (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Bridge

section Link
open Cert.Reference6Ideal Cert.Reference6Ideal.Gen

/-- The reference's term is that function too. -/
theorem ref (H : FVec Ideal S4x4096x2048 .f32) (W : FVec Ideal S2x2048x6144 .f32) :
    (truncf .bf16 ((concatenate S4x12x4096x512 1 [⟨S4x4x4096x512, ((transpose S4x4x4096x512 [0, 2, 1, 3] (shapeCast _ (mulf (extractStridedSlice S4x4096x2048 ![0, 0, 0] (Host.dotGeneral dot_S4x4096x2048_S2048x6144_S4x4096x6144_2_0_01_1_n_n none H (shapeCast _ (extractStridedSlice S1x2048x6144 ![0, 0, 0] W slices_S2x2048x6144_S1x2048x6144_0_0_0) shapeCasts_S1x2048x6144_S2048x6144)) slices_S4x4096x6144_S4x4096x2048_0_0_0) (broadcastInDim S4x4096x2048 ![] bcast_S_S4x4096x2048 (Host.divf (Host.rsqrt (constant (F := Ideal) S_ .f32 0x43000000#32)) (Host.log (constant (F := Ideal) S_ .f32 0x40000000#32))))) shapeCasts_S4x4096x2048_S4x4096x4x512) transposes_S4x4096x4x512_S4x4x4096x512_0_2_1_3) : (⟨S4x4x4096x512, .f32⟩ : BufTy).Contents (Elt Ideal))⟩, ⟨S4x4x4096x512, ((transpose S4x4x4096x512 [0, 2, 1, 3] (shapeCast _ (extractStridedSlice S4x4096x2048 ![0, 0, 2048] (Host.dotGeneral dot_S4x4096x2048_S2048x6144_S4x4096x6144_2_0_01_1_n_n none H (shapeCast _ (extractStridedSlice S1x2048x6144 ![0, 0, 0] W slices_S2x2048x6144_S1x2048x6144_0_0_0) shapeCasts_S1x2048x6144_S2048x6144)) slices_S4x4096x6144_S4x4096x2048_0_0_2048) shapeCasts_S4x4096x2048_S4x4096x4x512) transposes_S4x4096x4x512_S4x4x4096x512_0_2_1_3) : (⟨S4x4x4096x512, .f32⟩ : BufTy).Contents (Elt Ideal))⟩, ⟨S4x4x4096x512, ((transpose S4x4x4096x512 [0, 2, 1, 3] (shapeCast _ (extractStridedSlice S4x4096x2048 ![0, 0, 4096] (Host.dotGeneral dot_S4x4096x2048_S2048x6144_S4x4096x6144_2_0_01_1_n_n none H (shapeCast _ (extractStridedSlice S1x2048x6144 ![0, 0, 0] W slices_S2x2048x6144_S1x2048x6144_0_0_0) shapeCasts_S1x2048x6144_S2048x6144)) slices_S4x4096x6144_S4x4096x2048_0_0_4096) shapeCasts_S4x4096x2048_S4x4096x4x512) transposes_S4x4096x4x512_S4x4x4096x512_0_2_1_3) : (⟨S4x4x4096x512, .f32⟩ : BufTy).Contents (Elt Ideal))⟩] concatenates_S4x4x4096x512_S4x4x4096x512_S4x4x4096x512_S4x12x4096x512_d1 : (⟨S4x12x4096x512, .f32⟩ : BufTy).Contents (Elt Ideal))) bitsLt_bf16_f32 : FVec Ideal S4x12x4096x512 .bf16) = OUT H W := by
  funext j
  rw [eq_ix4 j]
  pointwise [OUT]
  rw [Consts.scale]
  have h1 : (j 1 : ℕ) < 12 := (j 1).isLt
  have h3 : (j 3 : ℕ) < 512 := (j 3).isLt
  by_cases h : (j 1 : ℕ) < 4
  · rw [dif_pos h]
    exact congrArg _ (if_pos h).symm
  · rw [dif_neg h]
    refine Eq.trans ?_ (Eq.trans (mul_one _).symm (congrArg _ (if_neg h).symm))
    by_cases h' : (j 1 : ℕ) - 4 < 4
    · rw [dif_pos h']
      refine Finset.sum_congr rfl fun k _ => ?_
      congr 3
      exact Fin.ext (by show 2048 + (((j 1 : ℕ) - 4) * 512 + (j 3 : ℕ)) = (j 1 : ℕ) * 512 + (j 3 : ℕ); omega)
    · rw [dif_neg h']
      refine Finset.sum_congr rfl fun k _ => ?_
      congr 3
      exact Fin.ext (by show 4096 + (((j 1 : ℕ) - 4 - 4) * 512 + (j 3 : ℕ)) = (j 1 : ℕ) * 512 + (j 3 : ℕ); omega)

end Link

theorem algebraic : Cert.algebraic_Kernel6Ideal_Reference6Ideal := by
  pair_intro
  · run_from Cert.Kernel6Ideal.Value.run_blocks m g
  · run_from Cert.Reference6Ideal.Value.run m' g'
    exact (ref _ _).trans (final m c).symm

end Cert.QkvProj

end
-- ==== Proof.lean ====
module

public import proofs.«01_k».proof.Defs
public import proofs.«01_k».proof.Proof.Gen.Pre_finite
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Frames
public import proofs.«01_k».proof.Proof.SwaClaim
public import proofs.«01_k».proof.Proof.Ffn
public import proofs.«01_k».proof.Proof.OutProj
public import proofs.«01_k».proof.Proof.QProj
public import proofs.«01_k».proof.Proof.KvProj
public import proofs.«01_k».proof.Proof.QkvProj
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  Cert.Frames.reference,
  Cert.Frames.reference_finite,
  fun m ρ _ => Cert.Kernel2.Gen.frame m ρ,
  fun m ρ _ => Cert.Kernel2Ideal.Gen.frame m ρ,
  Cert.Frames.reference2,
  fun m ρ _ => Cert.Kernel3.Gen.frame m ρ,
  fun m ρ _ => Cert.Kernel3Ideal.Gen.frame m ρ,
  Cert.Frames.reference3,
  fun m ρ _ => Cert.Kernel4.Gen.frame m ρ,
  fun m ρ _ => Cert.Kernel4Ideal.Gen.frame m ρ,
  Cert.Frames.reference4,
  fun m ρ _ => Cert.Kernel5.Gen.frame m ρ,
  fun m ρ _ => Cert.Kernel5Ideal.Gen.frame m ρ,
  Cert.Frames.reference5,
  fun m ρ _ => Cert.Kernel6.Gen.frame m ρ,
  fun m ρ _ => Cert.Kernel6Ideal.Gen.frame m ρ,
  Cert.Frames.reference6,
  ⟨IdealRules.named_const.statement Cert.KernelIdeal.κ "rootlog2e" .f32 0x3E0293EE#32 _ rfl, IdealRules.named_const.statement Cert.KernelIdeal.κ "log2e" .f32 0x3FB8AA3B#32 _ rfl, IdealRules.named_const.statement Cert.KernelIdeal.κ "mask" .f32 0xF149F2CA#32 _ rfl⟩,
  Cert.SwaClaim.algebraic,
  trivial,
  Cert.Ffn.algebraic,
  trivial,
  Cert.OutProj.algebraic,
  IdealRules.named_const.statement Cert.Kernel4Ideal.κ "rootlog2e" .f32 0x3E0293EE#32 _ rfl,
  Cert.QProj.algebraic,
  trivial,
  Cert.KvProj.algebraic,
  IdealRules.named_const.statement Cert.Kernel6Ideal.κ "rootlog2e" .f32 0x3E0293EE#32 _ rfl,
  Cert.QkvProj.algebraic⟩

end Cert.Proof

end
